-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)) (v5 : (c : Dev Cert.Kernel2Ideal.nD) → Buf (Elt Ideal) ((c.tc : Thread Cert.Kernel2Ideal.nD Cert.Kernel2Ideal.τ).loc Cert.Kernel2Ideal.main_v28_5)) (v6 : (c : Dev Cert.Kernel2Ideal.nD) → Buf (Elt Ideal) ((c.tc : Thread Cert.Kernel2Ideal.nD Cert.Kernel2Ideal.τ).loc Cert.Kernel2Ideal.main_v28_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_v28_5) = v5 c
          ∧ r.2.mem ((c.tc : Thread Cert.Kernel2Ideal.nD Cert.Kernel2Ideal.τ).loc Cert.Kernel2Ideal.main_v28_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v29) = v4 c
          ∧ r.2.mem ((c.tc : Thread Cert.Reference2Ideal.nD Cert.Reference2Ideal.τ).loc Cert.Reference2Ideal.main_v32) = v5 c
          ∧ r.2.mem ((c.tc : Thread Cert.Reference2Ideal.nD Cert.Reference2Ideal.τ).loc Cert.Reference2Ideal.main_v35) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x512 : Shape := ⟨3, ![2, 8192, 512]⟩
abbrev S2x8192x1024 : Shape := ⟨3, ![2, 8192, 1024]⟩
abbrev S2x8192x128 : Shape := ⟨3, ![2, 8192, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S2x8192x8 : Shape := ⟨3, ![2, 8192, 8]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  slices_S2x8192x128_S2x8192x8_0_0_0 : S2x8192x128.Slices ![0, 0, 0] S2x8192x8
  bcast_S_S2x8192x8 : S_.BroadcastsInDim S2x8192x8 (![] : Fin 0 → Fin S2x8192x8.rank)
  reducesTo_S2x8192x8_S_d0_1_2 : S2x8192x8.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_arg6 : FVec F S8 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S8 .f32 := Host.absf main_arg5
  let main_cst_6 : FVec F S_ .f32 := constant S_ .f32 0x7F800000#32
  let main_v21 : FVec F S8 .f32 := broadcastInDim S8 ![] bcast_S_S8 main_cst_6
  let main_v22 : IVec S8 1 := cmpf .olt main_v20 main_v21
  let main_c_7 : IVec S_ 1 := constantI S_ 1 1#1
  let main_v23 : IVec S_ 1 := (fun x v => Host.reduce IntOp.andi x v reducesTo_S8_S_d0 h_S_) main_v22 main_c_7
  let main_v24 : IVec S_ 1 := andi main_v19 main_v23
  let main_v25 : FVec F S8 .f32 := Host.absf main_arg6
  let main_cst_8 : FVec F S_ .f32 := constant S_ .f32 0x7F800000#32
  let main_v26 : FVec F S8 .f32 := broadcastInDim S8 ![] bcast_S_S8 main_cst_8
  let main_v27 : IVec S8 1 := cmpf .olt main_v25 main_v26
  let main_c_9 : IVec S_ 1 := constantI S_ 1 1#1
  let main_v28 : IVec S_ 1 := (fun x v => Host.reduce IntOp.andi x v reducesTo_S8_S_d0 h_S_) main_v27 main_c_9
  let main_v29 : IVec S_ 1 := andi main_v24 main_v28
  main_v29

def fn {F : FTy → Type} [FloatOps F] (main_arg0 : FVec F S2x8192x512 .f32) (main_arg1 : FVec F S2x8192x1024 .f32) (main_arg2 : FVec F S2x8192x128 .f32) (main_arg3 : FVec F S4x1024 .f32) (main_arg4 : FVec F S1024 .f32) (main_arg5 : FVec F S8 .f32) (main_arg6 : FVec F S8 .f32) (main_arg7 : FVec F S8 .f32) (main_arg8 : FVec F S512 .f32) : IVec S_ 1 :=
  let main_v0 : FVec F S2x8192x1024 .f32 := Host.absf main_arg1
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x8192x8 .f32 := (extractStridedSlice S2x8192x8 ![0, 0, 0] · slices_S2x8192x128_S2x8192x8_0_0_0) main_arg2
  let main_v5 : FVec F S2x8192x8 .f32 := Host.absf main_v4
  let main_cst_0 : FVec F S_ .f32 := constant S_ .f32 0x7F800000#32
  let main_v6 : FVec F S2x8192x8 .f32 := broadcastInDim S2x8192x8 ![] bcast_S_S2x8192x8 main_cst_0
  let main_v7 : IVec S2x8192x8 1 := cmpf .olt main_v5 main_v6
  let main_c_1 : IVec S_ 1 := constantI S_ 1 1#1
  let main_v8 : IVec S_ 1 := (fun x v => Host.reduce IntOp.andi x v reducesTo_S2x8192x8_S_d0_1_2 h_S_) main_v7 main_c_1
  let main_v9 : IVec S_ 1 := andi main_v3 main_v8
  let main_v10 : FVec F S4x1024 .f32 := Host.absf main_arg3
  let main_cst_2 : FVec F S_ .f32 := constant S_ .f32 0x7F800000#32
  let main_v11 : FVec F S4x1024 .f32 := broadcastInDim S4x1024 ![] bcast_S_S4x1024 main_cst_2
  let main_v12 : IVec S4x1024 1 := cmpf .olt main_v10 main_v11
  let main_c_3 : IVec S_ 1 := constantI S_ 1 1#1
  let main_v13 : IVec S_ 1 := (fun x v => Host.reduce IntOp.andi x v reducesTo_S4x1024_S_d0_1 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_arg5 main_arg6 main_v14 main_v15 main_v16
-- ==== Kernel.lean ====
abbrev S2x8192x512 : Shape := ⟨3, ![2, 8192, 512]⟩
abbrev S2x8192x1024 : Shape := ⟨3, ![2, 8192, 1024]⟩
abbrev S2x8192x128 : Shape := ⟨3, ![2, 8192, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S128x1 : Shape := ⟨2, ![128, 1]⟩
abbrev S128x512 : Shape := ⟨2, ![128, 512]⟩
abbrev S1x1024 : Shape := ⟨2, ![1, 1024]⟩
abbrev S1x256x512 : Shape := ⟨3, ![1, 256, 512]⟩
abbrev S1x256x1024 : Shape := ⟨3, ![1, 256, 1024]⟩
abbrev S1x256x128 : Shape := ⟨3, ![1, 256, 128]⟩
abbrev S264x1024 : Shape := ⟨2, ![264, 1024]⟩
abbrev S4x128x128 : Shape := ⟨3, ![4, 128, 128]⟩
abbrev S8x1024 : Shape := ⟨2, ![8, 1024]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S128x256 : Shape := ⟨2, ![128, 256]⟩
abbrev S256x1 : Shape := ⟨2, ![256, 1]⟩
abbrev S1x256 : Shape := ⟨2, ![1, 256]⟩
abbrev S1x128x128 : Shape := ⟨3, ![1, 128, 128]⟩
abbrev S128x128 : Shape := ⟨2, ![128, 128]⟩
abbrev S256 : Shape := ⟨1, ![256]⟩

abbrev nBuf : Space → Nat
  | .hbm => 49
  | .vmem => 17
  | .smem => 0
  | _ => 0

abbrev bufTy : (tb : Table) → Fin (tcTables nBuf tb) → BufTy
  | .hbm, ⟨0, _⟩ => ⟨S2x8192x512, .f32⟩
  | .hbm, ⟨1, _⟩ => ⟨S2x8192x1024, .f32⟩
  | .hbm, ⟨2, _⟩ => ⟨S2x8192x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S128, .i32⟩
  | .hbm, ⟨21, _⟩ => ⟨S128x1, .i32⟩
  | .hbm, ⟨22, _⟩ => ⟨S512, .i32⟩
  | .hbm, ⟨23, _⟩ => ⟨S1x512, .i32⟩
  | .hbm, ⟨24, _⟩ => ⟨S_, .i32⟩
  | .hbm, ⟨25, _⟩ => ⟨S_, .i32⟩
  | .hbm, ⟨26, _⟩ => ⟨S1x512, .i32⟩
  | .hbm, ⟨27, _⟩ => ⟨S1x512, .i32⟩
  | .hbm, ⟨28, _⟩ => ⟨S1x512, .i32⟩
  | .hbm, ⟨29, _⟩ => ⟨S_, .i32⟩
  | .hbm, ⟨30, _⟩ => ⟨S1x512, .i32⟩
  | .hbm, ⟨31, _⟩ => ⟨S1x512, .i1⟩
  | .hbm, ⟨32, _⟩ => ⟨S1x512, .i32⟩
  | .hbm, ⟨33, _⟩ => ⟨S1x512, .i32⟩
  | .hbm, ⟨34, _⟩ => ⟨S_, .i32⟩
  | .hbm, ⟨35, _⟩ => ⟨S1x512, .i32⟩
  | .hbm, ⟨36, _⟩ => ⟨S1x512, .i1⟩
  | .hbm, ⟨37, _⟩ => ⟨S1x512, .i1⟩
  | .hbm, ⟨38, _⟩ => ⟨S_, .i32⟩
  | .hbm, ⟨39, _⟩ => ⟨S1x512, .i32⟩
  | .hbm, ⟨40, _⟩ => ⟨S1x512, .i32⟩
  | .hbm, ⟨41, _⟩ => ⟨S1x512, .i32⟩
  | .hbm, ⟨42, _⟩ => ⟨S128x512, .i32⟩
  | .hbm, ⟨43, _⟩ => ⟨S128x512, .i32⟩
  | .hbm, ⟨44, _⟩ => ⟨S128x512, .i1⟩
  | .hbm, ⟨45, _⟩ => ⟨S128x512, .f32⟩
  | .hbm, ⟨46, _⟩ => ⟨S1x1024, .f32⟩
  | .hbm, ⟨47, _⟩ => ⟨S1x512, .f32⟩
  | .hbm, ⟨48, _⟩ => ⟨S2x8192x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x1024, .f32⟩
  | .local _ .vmem, ⟨3, _⟩ => ⟨S1x256x1024, .f32⟩
  | .local _ .vmem, ⟨4, _⟩ => ⟨S1x256x128, .f32⟩
  | .local _ .vmem, ⟨5, _⟩ => ⟨S1x256x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S1x256x512, .bf16⟩
  | .local _ .vmem, ⟨14, _⟩ => ⟨S1x256x512, .bf16⟩
  | .local _ .vmem, ⟨15, _⟩ => ⟨S264x1024, .f32⟩
  | .local _ .vmem, ⟨16, _⟩ => ⟨S4x128x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x8192x512 : Shape := ⟨3, ![2, 8192, 512]⟩
abbrev S2x8192x1024 : Shape := ⟨3, ![2, 8192, 1024]⟩
abbrev S2x8192x128 : Shape := ⟨3, ![2, 8192, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S2x8192x8 : Shape := ⟨3, ![2, 8192, 8]⟩
abbrev S_ : Shape := ⟨0, ![]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x256 : Shape := ⟨3, ![2, 8192, 256]⟩
abbrev S2x8192x8x64 : Shape := ⟨4, ![2, 8192, 8, 64]⟩
abbrev S2x8192x2x128 : Shape := ⟨4, ![2, 8192, 2, 128]⟩
abbrev S2x8192x2x4x128 : Shape := ⟨5, ![2, 8192, 2, 4, 128]⟩
abbrev S2x8192x8x128 : Shape := ⟨4, ![2, 8192, 8, 128]⟩
abbrev S1x1x8 : Shape := ⟨3, ![1, 1, 8]⟩
abbrev S2x8192x8x1 : Shape := ⟨4, ![2, 8192, 8, 1]⟩
abbrev S2x8x8192 : Shape := ⟨3, ![2, 8, 8192]⟩
abbrev S2x8x8192x1 : Shape := ⟨4, ![2, 8, 8192, 1]⟩
abbrev S2x8x8192x8192 : Shape := ⟨4, ![2, 8, 8192, 8192]⟩
abbrev S8192x8192 : Shape := ⟨2, ![8192, 8192]⟩
abbrev S2x8x64x8192 : Shape := ⟨4, ![2, 8, 64, 8192]⟩
abbrev S8x1 : Shape := ⟨2, ![8, 1]⟩
abbrev S1x1x8x1 : Shape := ⟨4, ![1, 1, 8, 1]⟩
abbrev S2x8192x2x256 : Shape := ⟨4, ![2, 8192, 2, 256]⟩
abbrev S2x256 : Shape := ⟨2, ![2, 256]⟩
abbrev S2x8192x2 : Shape := ⟨3, ![2, 8192, 2]⟩
abbrev S2x8192x2x1 : Shape := ⟨4, ![2, 8192, 2, 1]⟩
abbrev S1x1x2x256 : Shape := ⟨4, ![1, 1, 2, 256]⟩

abbrev nBuf : Space → Nat
  | .hbm => 166
  | .vmem => 0
  | .smem => 0
  | _ => 0

abbrev hbmTy0_0 (i : Nat) : BufTy := match i % 128 with
  | 0 => ⟨S2x8192x512, .f32⟩
  | 1 => ⟨S2x8192x1024, .f32⟩
  | 2 => ⟨S2x8192x128, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S2x8192x8, .f32⟩
  | 10 => ⟨S_, .i32⟩
  | 11 => ⟨S_, .f32⟩
  | 12 => ⟨S2x8195x1024, .f32⟩
  | 13 => ⟨S2x8192x1024, .f32⟩
  | 14 => ⟨S1x1024, .f32⟩
  | 15 => ⟨S1024, .f32⟩
  | 16 => ⟨S1x1x1024, .f32⟩
  | 17 => ⟨S2x8192x1024, .f32⟩
  | 18 => ⟨S2x8192x1024, .f32⟩
  | 19 => ⟨S2x8192x1024, .f32⟩
  | 20 => ⟨S1x1024, .f32⟩
  | 21 => ⟨S1024, .f32⟩
  | 22 => ⟨S1x1x1024, .f32⟩
  | 23 => ⟨S2x8192x1024, .f32⟩
  | 24 => ⟨S2x8192x1024, .f32⟩
  | 25 => ⟨S2x8192x1024, .f32⟩
  | 26 => ⟨S2x8192x1024, .f32⟩
  | 27 => ⟨S1x1024, .f32⟩
  | 28 => ⟨S1024, .f32⟩
  | 29 => ⟨S1x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S1x1024, .f32⟩
  | 35 => ⟨S1024, .f32⟩
  | 36 => ⟨S1x1x1024, .f32⟩
  | 37 => ⟨S2x8192x1024, .f32⟩
  | 38 => ⟨S2x8192x1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S_, .f32⟩
  | 46 => ⟨S2x8192x1024, .f32⟩
  | 47 => ⟨S2x8192x1024, .f32⟩
  | 48 => ⟨S_, .f32⟩
  | 49 => ⟨S2x8192x1024, .f32⟩
  | 50 => ⟨S2x8192x1024, .f32⟩
  | 51 => ⟨S2x8192x1024, .f32⟩
  | 52 => ⟨S2x8192x512, .f32⟩
  | 53 => ⟨S2x8192x256, .f32⟩
  | 54 => ⟨S2x8192x256, .f32⟩
  | 55 => ⟨S2x8192x8x64, .f32⟩
  | 56 => ⟨S2x8192x2x128, .f32⟩
  | 57 => ⟨S2x8192x2x4x128, .f32⟩
  | 58 => ⟨S2x8192x8x128, .f32⟩
  | 59 => ⟨S2x8192x2x128, .f32⟩
  | 60 => ⟨S2x8192x2x4x128, .f32⟩
  | 61 => ⟨S2x8192x8x128, .f32⟩
  | 62 => ⟨S1x1x8, .f32⟩
  | 63 => ⟨S2x8192x8, .f32⟩
  | 64 => ⟨S2x8192x8, .f32⟩
  | 65 => ⟨S_, .f32⟩
  | 66 => ⟨S2x8192x8, .f32⟩
  | 67 => ⟨S2x8192x8, .f32⟩
  | 68 => ⟨S2x8192x8, .f32⟩
  | 69 => ⟨S2x8192x8, .f32⟩
  | 70 => ⟨S2x8192x8, .i1⟩
  | 71 => ⟨S2x8192x8, .f32⟩
  | 72 => ⟨S2x8192x8, .f32⟩
  | 73 => ⟨S2x8192x8, .f32⟩
  | 74 => ⟨S2x8192x8, .f32⟩
  | 75 => ⟨S2x8192x8, .f32⟩
  | 76 => ⟨S2x8192x8, .f32⟩
  | 77 => ⟨S2x8192x8, .f32⟩
  | 78 => ⟨S2x8192x8, .f32⟩
  | 79 => ⟨S8, .f32⟩
  | 80 => ⟨S8, .f32⟩
  | 81 => ⟨S2x8192x8x1, .f32⟩
  | 82 => ⟨S2x8192x8x64, .f32⟩
  | 83 => ⟨S2x8192x8x64, .f32⟩
  | 84 => ⟨S1x1x8, .f32⟩
  | 85 => ⟨S2x8192x8, .f32⟩
  | 86 => ⟨S2x8192x8, .f32⟩
  | 87 => ⟨S2x8x8192, .f32⟩
  | 88 => ⟨S2x8x8192x1, .f32⟩
  | 89 => ⟨S2x8x8192x8192, .f32⟩
  | 90 => ⟨S_, .i1⟩
  | 91 => ⟨S8192x8192, .i1⟩
  | 92 => ⟨S8192x8192, .i32⟩
  | 93 => ⟨S_, .i32⟩
  | 94 => ⟨S8192x8192, .i32⟩
  | 95 => ⟨S8192x8192, .i32⟩
  | 96 => ⟨S8192x8192, .i32⟩
  | 97 => ⟨S8192x8192, .i1⟩
  | 98 => ⟨S_, .i1⟩
  | 99 => ⟨S8192x8192, .i1⟩
  | 100 => ⟨S8192x8192, .i1⟩
  | 101 => ⟨S_, .f32⟩
  | 102 => ⟨S_, .f32⟩
  | 103 => ⟨S2x8x8192x8192, .i1⟩
  | 104 => ⟨S2x8x8192x8192, .f32⟩
  | 105 => ⟨S2x8x8192x8192, .f32⟩
  | 106 => ⟨S_, .f32⟩
  | 107 => ⟨S_, .f32⟩
  | 108 => ⟨S2x8x8192x8192, .f32⟩
  | 109 => ⟨S_, .i1⟩
  | 110 => ⟨S8192x8192, .i1⟩
  | 111 => ⟨S8192x8192, .i32⟩
  | 112 => ⟨S_, .i32⟩
  | 113 => ⟨S8192x8192, .i32⟩
  | 114 => ⟨S8192x8192, .i32⟩
  | 115 => ⟨S8192x8192, .i32⟩
  | 116 => ⟨S8192x8192, .i1⟩
  | 117 => ⟨S_, .i1⟩
  | 118 => ⟨S8192x8192, .i1⟩
  | 119 => ⟨S8192x8192, .i1⟩
  | 120 => ⟨S_, .f32⟩
  | 121 => ⟨S_, .f32⟩
  | 122 => ⟨S2x8x8192x8192, .i1⟩
  | 123 => ⟨S2x8x8192x8192, .f32⟩
  | 124 => ⟨S2x8x8192x8192, .f32⟩
  | 125 => ⟨S2x8x8192x8192, .f32⟩
  | 126 => ⟨S2x8x8192x8192, .f32⟩
  | 127 => ⟨S2x8x8192x8192, .f32⟩
  | _ => ⟨S2x8192x512, .f32⟩

abbrev hbmTy0_1 (i : Nat) : BufTy := match i % 128 with
  | 0 => ⟨S2x8x64x8192, .f32⟩
  | 1 => ⟨S2x8192x8x64, .f32⟩
  | 2 => ⟨S8x1, .f32⟩
  | 3 => ⟨S1x1x8x1, .f32⟩
  | 4 => ⟨S2x8192x8x64, .f32⟩
  | 5 => ⟨S2x8192x8x64, .f32⟩
  | 6 => ⟨S2x8192x8x64, .f32⟩
  | 7 => ⟨S2x8192x512, .f32⟩
  | 8 => ⟨S2x8192x512, .f32⟩
  | 9 => ⟨S2x8192x512, .f32⟩
  | 10 => ⟨S_, .f32⟩
  | 11 => ⟨S2x8192x512, .f32⟩
  | 12 => ⟨S2x8192x512, .f32⟩
  | 13 => ⟨S_, .f32⟩
  | 14 => ⟨S2x8192x512, .f32⟩
  | 15 => ⟨S2x8192x512, .f32⟩
  | 16 => ⟨S2x8192x512, .f32⟩
  | 17 => ⟨S2x8192x512, .f32⟩
  | 18 => ⟨S2x8192x2x256, .f32⟩
  | 19 => ⟨S2x256, .f32⟩
  | 20 => ⟨S2x8192x2x256, .f32⟩
  | 21 => ⟨S_, .f32⟩
  | 22 => ⟨S2x8192x2, .f32⟩
  | 23 => ⟨S2x8192x2x1, .f32⟩
  | 24 => ⟨S_, .f32⟩
  | 25 => ⟨S2x8192x2x1, .f32⟩
  | 26 => ⟨S2x8192x2x1, .f32⟩
  | 27 => ⟨S_, .f32⟩
  | 28 => ⟨S2x8192x2x1, .f32⟩
  | 29 => ⟨S2x8192x2x1, .f32⟩
  | 30 => ⟨S2x8192x2x1, .f32⟩
  | 31 => ⟨S2x8192x2x256, .f32⟩
  | 32 => ⟨S2x8192x2x256, .f32⟩
  | 33 => ⟨S1x1x2x256, .f32⟩
  | 34 => ⟨S2x8192x2x256, .f32⟩
  | 35 => ⟨S2x8192x2x256, .f32⟩
  | 36 => ⟨S2x8192x512, .f32⟩
  | 37 => ⟨S2x8192x512, .bf16⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_0 : Ref sig .tc := ⟨.hbm, 90, rfl⟩
abbrev main_v58 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_c_0 : Ref sig .tc := ⟨.hbm, 98, rfl⟩
abbrev main_call3_v5 : Ref sig .tc := ⟨.hbm, 99, rfl⟩
abbrev main_v59 : Ref sig .tc := ⟨.hbm, 100, rfl⟩
abbrev main_cst : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v60 : Ref sig .tc := ⟨.hbm, 105, rfl⟩
abbrev main_call5_call0_cst : Ref sig .tc := ⟨.hbm, 106, rfl⟩
abbrev main_call5_call0_v0 : Ref sig .tc := ⟨.hbm, 107, rfl⟩
abbrev main_v61 : Ref sig .tc := ⟨.hbm, 108, rfl⟩
abbrev main_c_1 : Ref sig .tc := ⟨.hbm, 109, rfl⟩
abbrev main_v62 : Ref sig .tc := ⟨.hbm, 110, rfl⟩
abbrev main_call6_v0 : Ref sig .tc := ⟨.hbm, 111, rfl⟩
abbrev main_call6_c : Ref sig .tc := ⟨.hbm, 112, rfl⟩
abbrev main_call6_v1 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_call6_c_0 : Ref sig .tc := ⟨.hbm, 117, rfl⟩
abbrev main_call6_v5 : Ref sig .tc := ⟨.hbm, 118, rfl⟩
abbrev main_v63 : Ref sig .tc := ⟨.hbm, 119, rfl⟩
abbrev main_cst_2 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_call8_v0 : Ref sig .tc := ⟨.hbm, 136, rfl⟩
abbrev main_call8_v1 : Ref sig .tc := ⟨.hbm, 137, rfl⟩
abbrev main_call8_cst : Ref sig .tc := ⟨.hbm, 138, rfl⟩
abbrev main_call8_v2 : Ref sig .tc := ⟨.hbm, 139, rfl⟩
abbrev main_call8_v3 : Ref sig .tc := ⟨.hbm, 140, rfl⟩
abbrev main_call8_cst_0 : Ref sig .tc := ⟨.hbm, 141, rfl⟩
abbrev main_call8_v4 : Ref sig .tc := ⟨.hbm, 142, rfl⟩
abbrev main_call8_v5 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_cst_3 : Ref sig .tc := ⟨.hbm, 149, rfl⟩
abbrev main_v81 : Ref sig .tc := ⟨.hbm, 150, rfl⟩
abbrev main_v82 : Ref sig .tc := ⟨.hbm, 151, rfl⟩
abbrev main_cst_4 : Ref sig .tc := ⟨.hbm, 152, rfl⟩
abbrev main_v83 : Ref sig .tc := ⟨.hbm, 153, rfl⟩
abbrev main_v84 : Ref sig .tc := ⟨.hbm, 154, rfl⟩
abbrev main_cst_5 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2568 : Shape := ⟨2, ![1024, 2568]⟩
abbrev S1024x512 : Shape := ⟨2, ![1024, 512]⟩
abbrev S1024x1024 : Shape := ⟨2, ![1024, 1024]⟩
abbrev S1024x8 : Shape := ⟨2, ![1024, 8]⟩
abbrev S1024x256 : Shape := ⟨2, ![1024, 256]⟩
abbrev S_ : Shape := ⟨0, ![]⟩
abbrev S1024x128 : Shape := ⟨2, ![1024, 128]⟩
abbrev S1024x4x64 : Shape := ⟨3, ![1024, 4, 64]⟩
abbrev S1024x4x128 : Shape := ⟨3, ![1024, 4, 128]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 48
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S1024x512, .f32⟩
  | .hbm, ⟨4, _⟩ => ⟨S1024x1024, .f32⟩
  | .hbm, ⟨5, _⟩ => ⟨S1024x8, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x4x64, .f32⟩
  | .hbm, ⟨14, _⟩ => ⟨S_, .i32⟩
  | .hbm, ⟨15, _⟩ => ⟨S_, .f32⟩
  | .hbm, ⟨16, _⟩ => ⟨S1024x4x128, .f32⟩
  | .hbm, ⟨17, _⟩ => ⟨S1024x512, .f32⟩
  | .hbm, ⟨18, _⟩ => ⟨S1024x4x64, .f32⟩
  | .hbm, ⟨19, _⟩ => ⟨S_, .i32⟩
  | .hbm, ⟨20, _⟩ => ⟨S_, .f32⟩
  | .hbm, ⟨21, _⟩ => ⟨S1024x4x128, .f32⟩
  | .hbm, ⟨22, _⟩ => ⟨S1024x512, .f32⟩
  | .hbm, ⟨23, _⟩ => ⟨S1024x4x64, .f32⟩
  | .hbm, ⟨24, _⟩ => ⟨S_, .i32⟩
  | .hbm, ⟨25, _⟩ => ⟨S_, .f32⟩
  | .hbm, ⟨26, _⟩ => ⟨S1024x4x128, .f32⟩
  | .hbm, ⟨27, _⟩ => ⟨S1024x512, .f32⟩
  | .hbm, ⟨28, _⟩ => ⟨S1024x4x64, .f32⟩
  | .hbm, ⟨29, _⟩ => ⟨S_, .i32⟩
  | .hbm, ⟨30, _⟩ => ⟨S_, .f32⟩
  | .hbm, ⟨31, _⟩ => ⟨S1024x4x128, .f32⟩
  | .hbm, ⟨32, _⟩ => ⟨S1024x512, .f32⟩
  | .hbm, ⟨33, _⟩ => ⟨S1024x512, .bf16⟩
  | .hbm, ⟨34, _⟩ => ⟨S1024x1024, .bf16⟩
  | .hbm, ⟨35, _⟩ => ⟨S1024x128, .bf16⟩
  | .hbm, ⟨36, _⟩ => ⟨S1024x512, .bf16⟩
  | .hbm, ⟨37, _⟩ => ⟨S1024x512, .bf16⟩
  | .hbm, ⟨38, _⟩ => ⟨S1024x512, .bf16⟩
  | .hbm, ⟨39, _⟩ => ⟨S1024x512, .bf16⟩
  | .hbm, ⟨40, _⟩ => ⟨S1x1024, .f32⟩
  | .hbm, ⟨41, _⟩ => ⟨S16384x512, .f32⟩
  | .hbm, ⟨42, _⟩ => ⟨S16384x1024, .f32⟩
  | .hbm, ⟨43, _⟩ => ⟨S16384x128, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call3_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call4_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev main_v28_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x1024 : Shape := ⟨2, ![16384, 1024]⟩
abbrev S1024 : Shape := ⟨1, ![1024]⟩
abbrev S1024x2568 : Shape := ⟨2, ![1024, 2568]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2568 : Shape := ⟨2, ![16384, 2568]⟩
abbrev S16384x512 : Shape := ⟨2, ![16384, 512]⟩
abbrev S16384x8 : Shape := ⟨2, ![16384, 8]⟩
abbrev S16384x256 : Shape := ⟨2, ![16384, 256]⟩
abbrev S16384x120 : Shape := ⟨2, ![16384, 120]⟩
abbrev S16384x128 : Shape := ⟨2, ![16384, 128]⟩
abbrev S16384x4x64 : Shape := ⟨3, ![16384, 4, 64]⟩
abbrev S16384x4x128 : Shape := ⟨3, ![16384, 4, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2568, .f32⟩
  | .hbm, ⟨20, _⟩ => ⟨S16384x512, .f32⟩
  | .hbm, ⟨21, _⟩ => ⟨S16384x1024, .f32⟩
  | .hbm, ⟨22, _⟩ => ⟨S16384x8, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x120, .f32⟩
  | .hbm, ⟨29, _⟩ => ⟨S16384x128, .f32⟩
  | .hbm, ⟨30, _⟩ => ⟨S_, .f32⟩
  | .hbm, ⟨31, _⟩ => ⟨S16384x4x64, .f32⟩
  | .hbm, ⟨32, _⟩ => ⟨S16384x4x64, .f32⟩
  | .hbm, ⟨33, _⟩ => ⟨S16384x4x128, .f32⟩
  | .hbm, ⟨34, _⟩ => ⟨S16384x512, .f32⟩
  | .hbm, ⟨35, _⟩ => ⟨S16384x4x64, .f32⟩
  | .hbm, ⟨36, _⟩ => ⟨S16384x4x128, .f32⟩
  | .hbm, ⟨37, _⟩ => ⟨S16384x512, .f32⟩
  | .hbm, ⟨38, _⟩ => ⟨S16384x4x64, .f32⟩
  | .hbm, ⟨39, _⟩ => ⟨S16384x4x128, .f32⟩
  | .hbm, ⟨40, _⟩ => ⟨S16384x512, .f32⟩
  | .hbm, ⟨41, _⟩ => ⟨S16384x4x64, .f32⟩
  | .hbm, ⟨42, _⟩ => ⟨S16384x4x128, .f32⟩
  | .hbm, ⟨43, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S2x4x8192x64 : Shape := ⟨4, ![2, 4, 8192, 64]⟩
abbrev S1024x1024 : Shape := ⟨2, ![1024, 1024]⟩
abbrev S1024 : Shape := ⟨1, ![1024]⟩
abbrev S128x64 : Shape := ⟨2, ![128, 64]⟩
abbrev S72 : Shape := ⟨1, ![72]⟩
abbrev S72x128 : Shape := ⟨2, ![72, 128]⟩
abbrev S256x1024 : Shape := ⟨2, ![256, 1024]⟩
abbrev S4x64x1024 : Shape := ⟨3, ![4, 64, 1024]⟩
abbrev S512x1024 : Shape := ⟨2, ![512, 1024]⟩
abbrev S1x1024 : Shape := ⟨2, ![1, 1024]⟩
abbrev S1024x16384 : Shape := ⟨2, ![1024, 16384]⟩
abbrev S8x128x16384 : Shape := ⟨3, ![8, 128, 16384]⟩
abbrev S256x512 : Shape := ⟨2, ![256, 512]⟩
abbrev S1x4x256x64 : Shape := ⟨4, ![1, 4, 256, 64]⟩
abbrev S1024x256 : Shape := ⟨2, ![1024, 256]⟩
abbrev S8x128x256 : Shape := ⟨3, ![8, 128, 256]⟩
abbrev S16x128 : Shape := ⟨2, ![16, 128]⟩
abbrev S1x1x256x64 : Shape := ⟨4, ![1, 1, 256, 64]⟩
abbrev S256x64 : Shape := ⟨2, ![256, 64]⟩
abbrev S1x64x1024 : Shape := ⟨3, ![1, 64, 1024]⟩
abbrev S64x1024 : Shape := ⟨2, ![64, 1024]⟩
abbrev S256 : Shape := ⟨1, ![256]⟩
abbrev S256x1 : Shape := ⟨2, ![256, 1]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S1x128x128 : Shape := ⟨3, ![1, 128, 128]⟩

abbrev nBuf : Space → Nat
  | .hbm => 28
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S2x4x8192x64, .f32⟩
  | .hbm, ⟨3, _⟩ => ⟨S2x4x8192x64, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S128x64, .f32⟩
  | .hbm, ⟨8, _⟩ => ⟨S128x64, .f32⟩
  | .hbm, ⟨9, _⟩ => ⟨S72, .i32⟩
  | .hbm, ⟨10, _⟩ => ⟨S72x128, .i32⟩
  | .hbm, ⟨11, _⟩ => ⟨S72, .f32⟩
  | .hbm, ⟨12, _⟩ => ⟨S72x128, .f32⟩
  | .hbm, ⟨13, _⟩ => ⟨S1024x1024, .bf16⟩
  | .hbm, ⟨14, _⟩ => ⟨S256x1024, .bf16⟩
  | .hbm, ⟨15, _⟩ => ⟨S4x64x1024, .bf16⟩
  | .hbm, ⟨16, _⟩ => ⟨S256x1024, .bf16⟩
  | .hbm, ⟨17, _⟩ => ⟨S4x64x1024, .bf16⟩
  | .hbm, ⟨18, _⟩ => ⟨S512x1024, .bf16⟩
  | .hbm, ⟨19, _⟩ => ⟨S1x1024, .f32⟩
  | .hbm, ⟨20, _⟩ => ⟨S1024x1024, .f32⟩
  | .hbm, ⟨21, _⟩ => ⟨S1024x1024, .bf16⟩
  | .hbm, ⟨22, _⟩ => ⟨S16384x1024, .f32⟩
  | .hbm, ⟨23, _⟩ => ⟨S1024x16384, .bf16⟩
  | .hbm, ⟨24, _⟩ => ⟨S8x128x16384, .f32⟩
  | .hbm, ⟨25, _⟩ => ⟨S8x128x16384, .f32⟩
  | .hbm, ⟨26, _⟩ => ⟨S8x128x16384, .f32⟩
  | .hbm, ⟨27, _⟩ => ⟨S8x128x16384, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S1x4x256x64, .f32⟩
  | .local _ .vmem, ⟨5, _⟩ => ⟨S1x4x256x64, .f32⟩
  | .local _ .vmem, ⟨6, _⟩ => ⟨S1x4x256x64, .f32⟩
  | .local _ .vmem, ⟨7, _⟩ => ⟨S1x4x256x64, .f32⟩
  | .local _ .vmem, ⟨8, _⟩ => ⟨S512x1024, .bf16⟩
  | .local _ .vmem, ⟨9, _⟩ => ⟨S4x64x1024, .bf16⟩
  | .local _ .vmem, ⟨10, _⟩ => ⟨S4x64x1024, .bf16⟩
  | .local _ .vmem, ⟨11, _⟩ => ⟨S1x1024, .f32⟩
  | .local _ .vmem, ⟨12, _⟩ => ⟨S1024x1024, .bf16⟩
  | .local _ .vmem, ⟨13, _⟩ => ⟨S128x64, .f32⟩
  | .local _ .vmem, ⟨14, _⟩ => ⟨S128x64, .f32⟩
  | .local _ .vmem, ⟨15, _⟩ => ⟨S72x128, .i32⟩
  | .local _ .vmem, ⟨16, _⟩ => ⟨S72x128, .f32⟩
  | .local _ .vmem, ⟨17, _⟩ => ⟨S256x1024, .f32⟩
  | .local _ .vmem, ⟨18, _⟩ => ⟨S256x1024, .f32⟩
  | .local _ .vmem, ⟨19, _⟩ => ⟨S1024x256, .bf16⟩
  | .local _ .vmem, ⟨20, _⟩ => ⟨S1024x256, .bf16⟩
  | .local _ .vmem, ⟨21, _⟩ => ⟨S8x128x256, .f32⟩
  | .local _ .vmem, ⟨22, _⟩ => ⟨S8x128x256, .f32⟩
  | .local _ .vmem, ⟨23, _⟩ => ⟨S8x128x256, .f32⟩
  | .local _ .vmem, ⟨24, _⟩ => ⟨S8x128x256, .f32⟩
  | .local _ .vmem, ⟨25, _⟩ => ⟨S8x128x256, .f32⟩
  | .local _ .vmem, ⟨26, _⟩ => ⟨S8x128x256, .f32⟩
  | .local _ .vmem, ⟨27, _⟩ => ⟨S8x128x256, .f32⟩
  | .local _ .vmem, ⟨28, _⟩ => ⟨S8x128x256, .f32⟩
  | .local _ .vmem, ⟨29, _⟩ => ⟨S1024x256, .f32⟩
  | .local _ .vmem, ⟨30, _⟩ => ⟨S16x128, .f32⟩
  | .local _ .vmem, ⟨31, _⟩ => ⟨S16x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v89 : BitVec 32 := Scalar.addi c0_i32 c8_i32
  let c1_i32 : BitVec 32 := 1#32
  ⟨c0_i32, v89, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v91 : BitVec 32 := Scalar.muli arg23 c128_i32
  v91
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32 : BitVec 32 := 128#32
  let v91 : BitVec 32 := Scalar.muli arg23 c128_i32
  let v92 : BitVec 32 := v91
  let v94 : Index := Scalar.indexCast v92
  let c0_91 : Index := 0#32
  ![v94.toNat, 0]
def k0_off2 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32 : BitVec 32 := 128#32
  let v91 : BitVec 32 := Scalar.muli arg23 c128_i32
  let v92 : BitVec 32 := v91
  let c64_i32 : BitVec 32 := 64#32
  let v98 : BitVec 32 := Scalar.addi v92 c64_i32
  let v99 : Index := Scalar.indexCast v98
  let c0_95 : Index := 0#32
  ![v99.toNat, 0]
@[reducible] def k0_t2_loop : Scf.Loop 32 :=
  let c0_i32_98 : BitVec 32 := 0#32
  let c16_i32 : BitVec 32 := 16#32
  let v104 : BitVec 32 := Scalar.addi c0_i32_98 c16_i32
  let c1_i32_99 : BitVec 32 := 1#32
  ⟨c0_i32_98, v104, c1_i32_99⟩
def k0_off3 (k0_t2 : Fin k0_t2_loop.trips) : Fin 2 → Nat :=
  let c0_i32_98 : BitVec 32 := 0#32
  let c1_i32_99 : BitVec 32 := 1#32
  let arg24 : BitVec 32 := Scf.iv c0_i32_98 c1_i32_99 k0_t2
  let v282 : Index := Scalar.indexCast arg24
  let c0_144 : Index := 0#32
  ![v282.toNat, 0]
@[reducible] def k0_t3_loop : Scf.Loop 32 :=
  let c0_i32_102 : BitVec 32 := 0#32
  let c16_i32_103 : BitVec 32 := 16#32
  let v108 : BitVec 32 := Scalar.addi c0_i32_102 c16_i32_103
  let c1_i32_104 : BitVec 32 := 1#32
  ⟨c0_i32_102, v108, c1_i32_104⟩
def k0_off4 (k0_t3 : Fin k0_t3_loop.trips) : Fin 2 → Nat :=
  let c0_i32_102 : BitVec 32 := 0#32
  let c1_i32_104 : BitVec 32 := 1#32
  let arg24 : BitVec 32 := Scf.iv c0_i32_102 c1_i32_104 k0_t3
  let v282 : Index := Scalar.indexCast arg24
  let c0_144 : Index := 0#32
  ![v282.toNat, 0]
@[reducible] def k0_t4_loop : Scf.Loop 32 :=
  let c0_i32_112 : BitVec 32 := 0#32
  let c16_i32_113 : BitVec 32 := 16#32
  let v145 : BitVec 32 := Scalar.addi c0_i32_112 c16_i32_113
  let c1_i32_114 : BitVec 32 := 1#32
  ⟨c0_i32_112, v145, c1_i32_114⟩
def k0_off5 (k0_t1 : Fin k0_t1_loop.trips) : Fin 3 → Nat :=
  let c0_i32 : BitVec 32 := 0#32
  let c1_i32 : BitVec 32 := 1#32
  let arg23 : BitVec 32 := Scf.iv c0_i32 c1_i32 k0_t1
  let v244 : Index := Scalar.indexCast arg23
  let c0_132 : Index := 0#32
  let c0_133 : Index := 0#32
  ![v244.toNat, 0, 0]
@[reducible] def k0_t5_loop : Scf.Loop 32 :=
  let c0_i32_85 : BitVec 32 := 0#32
  let c8_i32_86 : BitVec 32 := 8#32
  let v90 : BitVec 32 := Scalar.addi c0_i32_85 c8_i32_86
  let c1_i32_87 : BitVec 32 := 1#32
  ⟨c0_i32_85, v90, c1_i32_87⟩
def k0_mult2 (k0_t5 : Fin k0_t5_loop.trips) : BitVec 32 :=
  let c0_i32_85 : BitVec 32 := 0#32
  let c1_i32_87 : BitVec 32 := 1#32
  let arg23 : BitVec 32 := Scf.iv c0_i32_85 c1_i32_87 k0_t5
  let c128_i32 : BitVec 32 := 128#32
  let v91 : BitVec 32 := Scalar.muli arg23 c128_i32
  v91
def k0_off6 (k0_t5 : Fin k0_t5_loop.trips) : Fin 2 → Nat :=
  let c0_i32_85 : BitVec 32 := 0#32
  let c1_i32_87 : BitVec 32 := 1#32
  let arg23 : BitVec 32 := Scf.iv c0_i32_85 c1_i32_87 k0_t5
  let c128_i32 : BitVec 32 := 128#32
  let v91 : BitVec 32 := Scalar.muli arg23 c128_i32
  let v92 : BitVec 32 := v91
  let v94 : Index := Scalar.indexCast v92
  let c128 : Index := 128#32
  ![v94.toNat, 128]
def k0_off7 (k0_t5 : Fin k0_t5_loop.trips) : Fin 2 → Nat :=
  let c0_i32_85 : BitVec 32 := 0#32
  let c1_i32_87 : BitVec 32 := 1#32
  let arg23 : BitVec 32 := Scf.iv c0_i32_85 c1_i32_87 k0_t5
  let c128_i32 : BitVec 32 := 128#32
  let v91 : BitVec 32 := Scalar.muli arg23 c128_i32
  let v92 : BitVec 32 := v91
  let c64_i32 : BitVec 32 := 64#32
  let v98 : BitVec 32 := Scalar.addi v92 c64_i32
  let v99 : Index := Scalar.indexCast v98
  let c128_94 : Index := 128#32
  ![v99.toNat, 128]
@[reducible] def k0_t6_loop : Scf.Loop 32 :=
  let c0_i32_97 : BitVec 32 := 0#32
  let c16_i32 : BitVec 32 := 16#32
  let v104 : BitVec 32 := Scalar.addi c0_i32_97 c16_i32
  let c1_i32_98 : BitVec 32 := 1#32
  ⟨c0_i32_97, v104, c1_i32_98⟩
def k0_off8 (k0_t6 : Fin k0_t6_loop.trips) : Fin 2 → Nat :=
  let c0_i32_97 : BitVec 32 := 0#32
  let c1_i32_98 : BitVec 32 := 1#32
  let arg24 : BitVec 32 := Scf.iv c0_i32_97 c1_i32_98 k0_t6
  let v282 : Index := Scalar.indexCast arg24
  let c0_143 : Index := 0#32
  ![v282.toNat, 0]
@[reducible] def k0_t7_loop : Scf.Loop 32 :=
  let c0_i32_101 : BitVec 32 := 0#32
  let c16_i32_102 : BitVec 32 := 16#32
  let v108 : BitVec 32 := Scalar.addi c0_i32_101 c16_i32_102
  let c1_i32_103 : BitVec 32 := 1#32
  ⟨c0_i32_101, v108, c1_i32_103⟩
def k0_off9 (k0_t7 : Fin k0_t7_loop.trips) : Fin 2 → Nat :=
  let c0_i32_101 : BitVec 32 := 0#32
  let c1_i32_103 : BitVec 32 := 1#32
  let arg24 : BitVec 32 := Scf.iv c0_i32_101 c1_i32_103 k0_t7
  let v282 : Index := Scalar.indexCast arg24
  let c0_143 : Index := 0#32
  ![v282.toNat, 0]
@[reducible] def k0_t8_loop : Scf.Loop 32 :=
  let c0_i32_111 : BitVec 32 := 0#32
  let c16_i32_112 : BitVec 32 := 16#32
  let v145 : BitVec 32 := Scalar.addi c0_i32_111 c16_i32_112
  let c1_i32_113 : BitVec 32 := 1#32
  ⟨c0_i32_111, v145, c1_i32_113⟩
def k0_off10 (k0_t5 : Fin k0_t5_loop.trips) : Fin 3 → Nat :=
  let c0_i32_85 : BitVec 32 := 0#32
  let c1_i32_87 : BitVec 32 := 1#32
  let arg23 : BitVec 32 := Scf.iv c0_i32_85 c1_i32_87 k0_t5
  let v244 : Index := Scalar.indexCast arg23
  let c0_131 : Index := 0#32
  let c128_132 : Index := 128#32
  ![v244.toNat, 0, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S72x128 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S72x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16384x1024 : Shape := ⟨2, ![16384, 1024]⟩
abbrev S16384x512 : Shape := ⟨2, ![16384, 512]⟩
abbrev S2x4x8192x64 : Shape := ⟨4, ![2, 4, 8192, 64]⟩
abbrev S1024x1024 : Shape := ⟨2, ![1024, 1024]⟩
abbrev S1024 : Shape := ⟨1, ![1024]⟩
abbrev S128x64 : Shape := ⟨2, ![128, 64]⟩
abbrev S2x8192x4x64 : Shape := ⟨4, ![2, 8192, 4, 64]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S2x4x8192x64, .f32⟩
  | .hbm, ⟨3, _⟩ => ⟨S2x4x8192x64, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S128x64, .f32⟩
  | .hbm, ⟨8, _⟩ => ⟨S128x64, .f32⟩
  | .hbm, ⟨9, _⟩ => ⟨S16384x512, .f32⟩
  | .hbm, ⟨10, _⟩ => ⟨S2x8192x4x64, .f32⟩
  | .hbm, ⟨11, _⟩ => ⟨S16384x256, .f32⟩
  | .hbm, ⟨12, _⟩ => ⟨S2x8192x4x64, .f32⟩
  | .hbm, ⟨13, _⟩ => ⟨S16384x256, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1024x16384, .f32⟩
  | .hbm, ⟨34, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Model.lean ====
module

public import Idealize.ShloMosaic.PureOps.Ideal
public import Idealize.ShloMosaic.Lib.Pointwise

/-! The state-space mixer as a function of its inputs, written with plain coordinates: what the launch and the reference
    are both shown to compute.  The inputs that enter a difference or a sum taken out of order are finite, and over them
    the recurrence is stated in the real numbers. -/

@[expose] public section

noncomputable section

namespace Cert.Mixer

open Idealize.ShloMosaic
open scoped BigOperators

/-- The mixer's inputs by coordinates: the tokens' channels `u`, step sizes `d` and gates `z`, the convolution's weights
    `w` and bias `cb`, the step bias `db`, the decay's logarithm `al`, the skip weights `sk` and the norm's weights `nw`. -/
structure Inputs where
  u : Fin 2 → Fin 8192 → Fin 1024 → EReal
  d : Fin 2 → Fin 8192 → Fin 8 → EReal
  z : Fin 2 → Fin 8192 → Fin 512 → EReal
  w : Fin 4 → Fin 1024 → EReal
  cb : Fin 1024 → EReal
  db : Fin 8 → EReal
  al : Fin 8 → EReal
  sk : Fin 8 → EReal
  nw : Fin 512 → EReal

/-- A real number. -/
def Real? (x : EReal) : Prop := ∃ r : ℝ, x = (r : EReal)

/-- The inputs the recurrence reads are real. -/
structure Inputs.Finite (I : Inputs) : Prop where
  u : ∀ i t ch, Real? (I.u i t ch)
  d : ∀ i t h, Real? (I.d i t h)
  w : ∀ k ch, Real? (I.w k ch)
  cb : ∀ ch, Real? (I.cb ch)
  db : ∀ h, Real? (I.db h)
  al : ∀ h, Real? (I.al h)

variable (I : Inputs)

/-- The channels `d` tokens before `t`, zero before the sequence. -/
def prev (d : ℕ) (i : Fin 2) (t : Fin 8192) (ch : Fin 1024) : EReal :=
  if d ≤ t.val then I.u i ⟨t.val - d, lt_of_le_of_lt (Nat.sub_le _ _) t.isLt⟩ ch else 0

/-- The causal convolution over four tokens. -/
def conv (i : Fin 2) (t : Fin 8192) (ch : Fin 1024) : EReal :=
  prev I 3 i t ch * I.w 0 ch + prev I 2 i t ch * I.w 1 ch + prev I 1 i t ch * I.w 2 ch + I.u i t ch * I.w 3 ch + I.cb ch

/-- `x` times the logistic function of `x`. -/
def sil (x : EReal) : EReal := x * Ideal.div 1 (1 + Ideal.exp (-x))

/-- The logarithm of one plus the exponential of `x`. -/
def spl (x : EReal) : EReal := max x 0 + Ideal.log (1 + Ideal.exp (-(max x (-x))))

/-- The activated channels. -/
def act (i : Fin 2) (t : Fin 8192) (ch : Fin 1024) : EReal := sil (conv I i t ch)

/-- A head's step size at a token. -/
def step (i : Fin 2) (t : Fin 8192) (h : Fin 8) : EReal := spl (I.d i t h + I.db h)

/-- The logarithm of a head's decay at a token. -/
def rate (i : Fin 2) (t : Fin 8192) (h : Fin 8) : EReal := step I i t h * -Ideal.exp (I.al h)

/-- A function of the tokens as real numbers, zero past the sequence. -/
def onNat (f : Fin 8192 → EReal) (s : ℕ) : ℝ := if hs : s < 8192 then (f ⟨s, hs⟩).toReal else 0

/-- The head of a channel. -/
def hd (j : Fin 512) : Fin 8 := ⟨j.val / 64, by omega⟩

/-- The activated channel of an input lane. -/
def chX (j : Fin 512) : Fin 1024 := ⟨j.val, by omega⟩
/-- The channel of the `n`-th input weight of `j`'s group. -/
def chB (j : Fin 512) (n : Fin 128) : Fin 1024 := ⟨512 + (j.val / 256 * 128 + n.val), by omega⟩
/-- The channel of the `n`-th output weight of `j`'s group. -/
def chC (j : Fin 512) (n : Fin 128) : Fin 1024 := ⟨768 + (j.val / 256 * 128 + n.val), by omega⟩

/-- The activated channels as real numbers. -/
def actR (i : Fin 2) (ch : Fin 1024) (s : ℕ) : ℝ := onNat (fun t => act I i t ch) s
/-- The step sizes as real numbers. -/
def stepR (i : Fin 2) (h : Fin 8) (s : ℕ) : ℝ := onNat (fun t => step I i t h) s
/-- The decays' logarithms as real numbers. -/
def rateR (i : Fin 2) (h : Fin 8) (s : ℕ) : ℝ := onNat (fun t => rate I i t h) s
/-- The sum of the decays' logarithms over the first `n` tokens. -/
def total (i : Fin 2) (h : Fin 8) (n : ℕ) : ℝ := ∑ k ∈ Finset.range n, rateR I i h k
/-- A lane's input at a token: the activated channel times its head's step size. -/
def inR (i : Fin 2) (j : Fin 512) (s : ℕ) : ℝ := actR I i (chX j) s * stepR I i (hd j) s

/-- The state of lane `j` and state coordinate `n` before token `M`. -/
def state (i : Fin 2) (j : Fin 512) (n : Fin 128) (M : ℕ) : ℝ :=
  ∑ s ∈ Finset.range M, actR I i (chB j n) s * (inR I i j s * Real.exp (total I i (hd j) M - total I i (hd j) (s + 1)))

/-- The score of token `s` at token `t` for lane `j`'s group. -/
def score (i : Fin 2) (j : Fin 512) (t s : ℕ) : ℝ := ∑ n : Fin 128, actR I i (chC j n) t * actR I i (chB j n) s

/-- The decay from token `s` to token `t`, zero for a later `s`. -/
def fade (i : Fin 2) (h : Fin 8) (t s : ℕ) : ℝ := if s ≤ t then Real.exp (total I i h (t + 1) - total I i h (s + 1)) else 0

/-- The mixer's sum at token `t`, lane `j`. -/
def mix (i : Fin 2) (j : Fin 512) (t : ℕ) : ℝ := ∑ s ∈ Finset.range 8192, score I i j t s * fade I i (hd j) t s * inR I i j s

/-- The sum with the skip, gated. -/
def gate (i : Fin 2) (t : Fin 8192) (j : Fin 512) : EReal :=
  ((mix I i j t.val : ℝ) + act I i t (chX j) * I.sk (hd j)) * sil (I.z i t j)

/-- The lane `x` of `j`'s group of 256. -/
def mate (j : Fin 512) (x : Fin 256) : Fin 512 := ⟨j.val / 256 * 256 + x.val, by omega⟩

/-- The mixer's result: the gated sum, divided by its group's root mean square and weighted. -/
def out (i : Fin 2) (t : Fin 8192) (j : Fin 512) : EReal :=
  gate I i t j * Ideal.rsqrt (Ideal.div (∑ x : Fin 256, gate I i t (mate j x) * gate I i t (mate j x)) (Ideal.ofBits .f32 0x43800000#32) + Ideal.ofBits .f32 0x358637BD#32) * I.nw j

/-! ### Reals -/

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) := (EReal.coe_strictMono.monotone.map_max).symm

theorem Real?.add {x y : EReal} : Real? x → Real? y → Real? (x + y) := by
  rintro ⟨a, rfl⟩ ⟨b, rfl⟩; exact ⟨a + b, by push_cast; rfl⟩
theorem Real?.mul {x y : EReal} : Real? x → Real? y → Real? (x * y) := by
  rintro ⟨a, rfl⟩ ⟨b, rfl⟩; exact ⟨a * b, by push_cast; rfl⟩
theorem Real?.neg {x : EReal} : Real? x → Real? (-x) := by
  rintro ⟨a, rfl⟩; exact ⟨-a, by push_cast; rfl⟩
theorem Real?.exp {x : EReal} : Real? x → Real? (Ideal.exp x) := by
  rintro ⟨a, rfl⟩; exact ⟨Real.exp a, by simp⟩
theorem Real?.zero : Real? 0 := ⟨0, by simp⟩
theorem Real?.coe {x : EReal} : Real? x → ((x.toReal : ℝ) : EReal) = x := by
  rintro ⟨a, rfl⟩; simp

/-- The logistic product of a real number is real. -/
theorem Real?.sil {x : EReal} : Real? x → Real? (sil x) := by
  rintro ⟨a, rfl⟩
  have e : (1 : EReal) + Ideal.exp (-(a : EReal)) = ((1 + Real.exp (-a) : ℝ) : EReal) := by
    rw [← EReal.coe_neg, Ideal.exp_coe]; push_cast; rfl
  have hne : (1 + Real.exp (-a) : ℝ) ≠ 0 := by positivity
  refine Real?.mul ⟨a, rfl⟩ ⟨1 * (1 / (1 + Real.exp (-a))), ?_⟩
  rw [e, Ideal.div_coe hne]; push_cast; rfl

/-- The soft maximum of a real number and zero is real. -/
theorem Real?.spl {x : EReal} : Real? x → Real? (spl x) := by
  rintro ⟨a, rfl⟩
  have e : (1 : EReal) + Ideal.exp (-(max (a : EReal) (-(a : EReal)))) = ((1 + Real.exp (-(max a (-a))) : ℝ) : EReal) := by
    rw [← EReal.coe_neg, coe_max, ← EReal.coe_neg, Ideal.exp_coe]; push_cast; rfl
  have hp : ¬ (1 + Real.exp (-(max a (-a))) : ℝ) ≤ 0 := not_le.mpr (by positivity)
  refine Real?.add ⟨max a 0, coe_max a 0⟩ ⟨Real.log (1 + Real.exp (-(max a (-a)))), ?_⟩
  rw [e, Ideal.log_coe, if_neg hp]

variable {I}

theorem Inputs.Finite.prev (hI : I.Finite) (d : ℕ) (i : Fin 2) (t : Fin 8192) (ch : Fin 1024) : Real? (prev I d i t ch) := by
  unfold Mixer.prev; split
  · exact hI.u _ _ _
  · exact Real?.zero

theorem Inputs.Finite.act (hI : I.Finite) (i : Fin 2) (t : Fin 8192) (ch : Fin 1024) : Real? (act I i t ch) :=
  ((((((hI.prev _ _ _ _).mul (hI.w _ _)).add ((hI.prev _ _ _ _).mul (hI.w _ _))).add ((hI.prev _ _ _ _).mul (hI.w _ _))).add
    ((hI.u _ _ _).mul (hI.w _ _))).add (hI.cb _)).sil

theorem Inputs.Finite.step (hI : I.Finite) (i : Fin 2) (t : Fin 8192) (h : Fin 8) : Real? (step I i t h) := ((hI.d _ _ _).add (hI.db _)).spl

theorem Inputs.Finite.rate (hI : I.Finite) (i : Fin 2) (t : Fin 8192) (h : Fin 8) : Real? (rate I i t h) := (hI.step _ _ _).mul (hI.al _).exp.neg

theorem coe_onNat {f : Fin 8192 → EReal} (hf : ∀ t, Real? (f t)) (s : ℕ) (hs : s < 8192) : ((onNat f s : ℝ) : EReal) = f ⟨s, hs⟩ := by
  unfold onNat; rw [dif_pos hs]; exact (hf _).coe

/-- The activated channels are their real numbers. -/
theorem act_eq (hI : I.Finite) (i : Fin 2) (s : ℕ) (hs : s < 8192) (ch : Fin 1024) : act I i ⟨s, hs⟩ ch = (actR I i ch s : EReal) :=
  (coe_onNat (fun t => hI.act i t ch) s hs).symm
/-- The step sizes are their real numbers. -/
theorem step_eq (hI : I.Finite) (i : Fin 2) (s : ℕ) (hs : s < 8192) (h : Fin 8) : step I i ⟨s, hs⟩ h = (stepR I i h s : EReal) :=
  (coe_onNat (fun t => hI.step i t h) s hs).symm
/-- The decays' logarithms are their real numbers. -/
theorem rate_eq (hI : I.Finite) (i : Fin 2) (s : ℕ) (hs : s < 8192) (h : Fin 8) : rate I i ⟨s, hs⟩ h = (rateR I i h s : EReal) :=
  (coe_onNat (fun t => hI.rate i t h) s hs).symm

/-! ### The recurrence -/

/-- The state after a chunk of 256 tokens: the state before it, decayed over the chunk, plus the chunk's inputs. -/
theorem state_step (i : Fin 2) (j : Fin 512) (n : Fin 128) (M : ℕ) :
    state I i j n (M + 256) = state I i j n M * Real.exp (total I i (hd j) (M + 256) - total I i (hd j) M)
      + ∑ x : Fin 256, actR I i (chB j n) (M + x.val) * (inR I i j (M + x.val)
          * Real.exp ((total I i (hd j) (M + 256) - total I i (hd j) M) - (total I i (hd j) (M + x.val + 1) - total I i (hd j) M))) := by
  unfold state
  rw [Finset.sum_range_add, Finset.sum_mul, Fin.sum_univ_eq_sum_range (fun x => actR I i (chB j n) (M + x) * (inR I i j (M + x)
          * Real.exp ((total I i (hd j) (M + 256) - total I i (hd j) M) - (total I i (hd j) (M + x + 1) - total I i (hd j) M)))) 256]
  congr 1
  · refine Finset.sum_congr rfl fun s _ => ?_
    rw [mul_assoc, mul_assoc, ← Real.exp_add]
    congr 3; ring
  · refine Finset.sum_congr rfl fun s _ => ?_
    congr 3; ring

/-- The mixer's sum at the `r`-th token of the chunk after `M` tokens: the chunk's own part, and the state before the
    chunk decayed to the token. -/
theorem mix_chunk (i : Fin 2) (j : Fin 512) (M : ℕ) (hM : M + 256 ≤ 8192) (r : Fin 256) :
    mix I i j (M + r.val) = (∑ x : Fin 256, score I i j (M + r.val) (M + x.val)
          * (if x.val ≤ r.val then Real.exp ((total I i (hd j) (M + r.val + 1) - total I i (hd j) M) - (total I i (hd j) (M + x.val + 1) - total I i (hd j) M)) else 0)
          * inR I i j (M + x.val))
      + (∑ n : Fin 128, actR I i (chC j n) (M + r.val) * state I i j n M) * Real.exp (total I i (hd j) (M + r.val + 1) - total I i (hd j) M) := by
  obtain ⟨k, hk⟩ := Nat.exists_eq_add_of_le hM
  unfold mix
  rw [hk, Finset.sum_range_add, Finset.sum_range_add]
  have h3 : ∑ x ∈ Finset.range k, score I i j (M + r.val) (M + 256 + x) * fade I i (hd j) (M + r.val) (M + 256 + x) * inR I i j (M + 256 + x) = 0 := by
    refine Finset.sum_eq_zero fun x _ => ?_
    have : ¬ (M + 256 + x ≤ M + r.val) := by omega
    simp [fade, this]
  rw [h3, add_zero, add_comm]
  congr 1
  · rw [Fin.sum_univ_eq_sum_range (fun x => score I i j (M + r.val) (M + x)
          * (if x ≤ r.val then Real.exp ((total I i (hd j) (M + r.val + 1) - total I i (hd j) M) - (total I i (hd j) (M + x + 1) - total I i (hd j) M)) else 0)
          * inR I i j (M + x)) 256]
    refine Finset.sum_congr rfl fun x _ => ?_
    unfold fade
    congr 2
    by_cases hx : x ≤ r.val
    · rw [if_pos hx, if_pos (by omega)]; congr 1; ring
    · rw [if_neg hx, if_neg (by omega)]
  · have e : ∀ s ∈ Finset.range M, score I i j (M + r.val) s * fade I i (hd j) (M + r.val) s * inR I i j s
        = ∑ n : Fin 128, actR I i (chC j n) (M + r.val) * (actR I i (chB j n) s * (inR I i j s * Real.exp (total I i (hd j) M - total I i (hd j) (s + 1))))
          * Real.exp (total I i (hd j) (M + r.val + 1) - total I i (hd j) M) := by
      intro s hs
      have hs' := Finset.mem_range.mp hs
      unfold score fade
      rw [if_pos (by omega), Finset.sum_mul, Finset.sum_mul]
      refine Finset.sum_congr rfl fun n _ => ?_
      have : Real.exp (total I i (hd j) (M + r.val + 1) - total I i (hd j) (s + 1))
          = Real.exp (total I i (hd j) M - total I i (hd j) (s + 1)) * Real.exp (total I i (hd j) (M + r.val + 1) - total I i (hd j) M) := by
        rw [← Real.exp_add]; congr 1; ring
      rw [this]; ring
    rw [Finset.sum_congr rfl e, Finset.sum_comm, Finset.sum_mul]
    refine Finset.sum_congr rfl fun n _ => ?_
    rw [← Finset.sum_mul, ← Finset.mul_sum]
    rfl

end Cert.Mixer
-- ==== Proof.Words.lean ====
module

public import Idealize.ShloMosaic.PureOps.Ideal
public import Idealize.ShloMosaic.Lib.Pointwise
public import Idealize.ShloMosaic.Lib.WordCmp
/-! Integer words and literal floats that stand for a comparison or for minus infinity. -/

@[expose] public section

noncomputable section
namespace Cert.Mixer
open Idealize.ShloMosaic
/-- No small word is at or below minus one. -/
theorem neg_word (s : ℕ) (hs : s < 8192) : BitVec.sle (BitVec.ofNat 32 s) (BitVec.allOnes 32) = false := by
  rw [BitVec.sle_eq_decide, decide_eq_false_iff_not, BitVec.toInt_allOnes]
  have e2 : (BitVec.ofNat 32 s).toInt = s := by
    rw [BitVec.toInt_eq_toNat_of_lt] <;> rw [BitVec.toNat_ofNat, Nat.mod_eq_of_lt (by omega)]
    omega
  rw [e2]
  simp
  omega
/-- Adding minus one to a positive word. -/
theorem pred_word (t : ℕ) (h0 : 0 < t) (ht : t < 8192) : BitVec.ofNat 32 t + BitVec.allOnes 32 = BitVec.ofNat 32 (t - 1) := by
  apply BitVec.eq_of_toNat_eq
  rw [BitVec.toNat_add, BitVec.toNat_ofNat, BitVec.toNat_ofNat, BitVec.toNat_allOnes]
  omega
/-- Minus one as a word. -/
theorem ones_word : (4294967295#32 : BitVec 32) = BitVec.allOnes 32 := by decide
/-- The float of minus infinity is the bottom. -/
theorem bot_word : Ideal.ofBits .f32 0xFF800000#32 = ⊥ := by
  show Ideal.ieee 8 23 0xFF800000#32 = ⊥
  unfold Ideal.ieee
  dsimp only
  rw [if_pos (by decide), if_pos (by decide), if_pos (by decide)]
/-- The word comparison of a row less one with a column. -/
theorem strict_word (t s : Fin 8192) :
    IntOp.cmpi .sge (IntOp.addi (BitVec.ofNat 32 t.val) 4294967295#32) (BitVec.ofNat 32 s.val) = BitVec.ofBool (decide (s.val < t.val)) := by
  have ht := t.isLt
  have hs := s.isLt
  rw [ones_word]
  rcases Nat.eq_zero_or_pos t.val with h0 | h0
  · have e : IntOp.addi (BitVec.ofNat 32 t.val) (BitVec.allOnes 32) = BitVec.allOnes 32 := by
      rw [h0]; exact BitVec.zero_add _
    rw [e, decide_eq_false (by omega)]
    exact congrArg BitVec.ofBool (neg_word s.val hs)
  · have e : IntOp.addi (BitVec.ofNat 32 t.val) (BitVec.allOnes 32) = BitVec.ofNat 32 (t.val - 1) := pred_word t.val h0 ht
    rw [e, WordCmp.cmpi_sge_ofNat (by omega) (by omega)]
    exact congrArg BitVec.ofBool (decide_eq_decide.mpr ⟨fun h => by omega, fun h => by omega⟩)
/-- The word comparison of a row with a column. -/
theorem lower_word (t s : Fin 8192) :
    IntOp.cmpi .sge (IntOp.addi (BitVec.ofNat 32 t.val) 0#32) (BitVec.ofNat 32 s.val) = BitVec.ofBool (decide (s.val ≤ t.val)) := by
  have ht := t.isLt
  have hs := s.isLt
  have e : IntOp.addi (BitVec.ofNat 32 t.val) 0#32 = BitVec.ofNat 32 t.val := BitVec.add_zero _
  rw [e, WordCmp.cmpi_sge_ofNat (by omega) (by omega)]

/-- The integer zero is zero. -/
theorem zero_word : (FloatOps.sitofp (F := Ideal) .f32 (0#32) : EReal) = 0 := by
  show ((((0#32 : BitVec 32).toInt : ℤ) : ℝ) : EReal) = 0
  simp

end Cert.Mixer
-- ==== Proof.Chunk.lean ====
module

public import proofs.«01_k».proof.Proof.Gen.KernelIdeal.Skeleton
public import proofs.«01_k».proof.Proof.Model
public import proofs.«01_k».proof.Proof.Words

/-! One chunk of 256 tokens: what the launch's stored expressions are at a lane, in the real numbers, when the blocks they
    read hold the mixer's activated channels, step sizes, running decays and state. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer
open scoped BigOperators

/-- The blocks of the chunk that starts at token `M` of batch `i`: the inputs' lanes, the input and output weights, the
    step sizes, the running decays, and the table that spreads a head over its lanes. -/
structure AtChunk (I : Inputs) (i : Fin 2) (M : ℕ) (X : FVec Ideal S256x512 .f32) (B C : FVec Ideal S256x256 .f32)
    (T A : FVec Ideal S256x128 .f32) (E : FVec Ideal S128x512 .f32) : Prop where
  x : ∀ (r : Fin 256) (j : Fin 512), X (ix2 r j) = (actR I i (chX j) (M + r.val) : EReal)
  b : ∀ (r : Fin 256) (n : Fin 256), B (ix2 r n) = (actR I i ⟨512 + n.val, by omega⟩ (M + r.val) : EReal)
  c : ∀ (r : Fin 256) (n : Fin 256), C (ix2 r n) = (actR I i ⟨768 + n.val, by omega⟩ (M + r.val) : EReal)
  t : ∀ (r : Fin 256) (h : Fin 8), T (ix2 r ⟨h.val, by omega⟩) = (stepR I i h (M + r.val) : EReal)
  a : ∀ (r : Fin 256) (h : Fin 8), A (ix2 r ⟨h.val, by omega⟩) = ((total I i h (M + r.val + 1) - total I i h M : ℝ) : EReal)
  e : ∀ (x : Fin 128) (j : Fin 512), E (ix2 x j) = if x.val = j.val / 64 then (1 : EReal) else 0

/-- A row against the spreading table: the row's entry at the lane's head. -/
theorem spread (f : Fin 128 → EReal) (j : Fin 512) (E : Fin 128 → EReal)
    (e : ∀ x, E x = if x.val = j.val / 64 then (1 : EReal) else 0) : ∑ x, f x * E x = f ⟨(hd j).val, by omega⟩ := by
  rw [Finset.sum_eq_single ⟨(hd j).val, by omega⟩]
  · have e1 : E ⟨(hd j).val, by omega⟩ = 1 := by rw [e]; exact if_pos rfl
    rw [e1, mul_one]
  · intro b _ hb
    rw [e, if_neg, mul_zero]
    intro h
    exact hb (Fin.ext h)
  · intro h; exact absurd (Finset.mem_univ _) h

section
variable {I : Inputs} {i : Fin 2} {M : ℕ} {X : FVec Ideal S256x512 .f32} {B C : FVec Ideal S256x256 .f32}
variable {T A : FVec Ideal S256x128 .f32} {E : Vec Ideal S128x512 .f32}

/-- The decay from the chunk's start to a token, at a lane. -/
theorem decayed (H : AtChunk I i M X B C T A E) (r : Fin 256) (j : Fin 512) :
    k0_pay21 (F := Ideal) A E (ix2 r j) = (Real.exp (total I i (hd j) (M + r.val + 1) - total I i (hd j) M) : EReal) := by
  have e : k0_pay21 (F := Ideal) A E (ix2 r j) = Ideal.exp (∑ x, A (ix2 r x) * E (ix2 x j)) := by
    pointwise [k0_pay21, k0_pay19, k0_pay20]
  rw [e, spread (fun x => A (ix2 r x)) j (fun x => E (ix2 x j)) (fun x => H.e x j), H.a r (hd j), Ideal.exp_coe]

/-- The decay from a token to the chunk's end, at a lane. -/
theorem ending (H : AtChunk I i M X B C T A E) (r : Fin 256) (j : Fin 512) :
    k0_pay22 (F := Ideal) A E (ix2 r j) = (Real.exp ((total I i (hd j) (M + 256) - total I i (hd j) M)
      - (total I i (hd j) (M + r.val + 1) - total I i (hd j) M)) : EReal) := by
  have e : k0_pay22 (F := Ideal) A E (ix2 r j) = Ideal.exp ((∑ x, A (ix2 (255 : Fin 256) x) * E (ix2 x j)) - (∑ x, A (ix2 r x) * E (ix2 x j))) := by
    pointwise [k0_pay22, k0_pay19, k0_pay20]
  rw [e, spread (fun x => A (ix2 r x)) j (fun x => E (ix2 x j)) (fun x => H.e x j),
    spread (fun x => A (ix2 (255 : Fin 256) x)) j (fun x => E (ix2 x j)) (fun x => H.e x j), H.a r (hd j), H.a 255 (hd j), ← EReal.coe_sub, Ideal.exp_coe]
  rfl

/-- The decay over the whole chunk, at a lane. -/
theorem whole (H : AtChunk I i M X B C T A E) (j : Fin 512) :
    k0_pay23 (F := Ideal) A E (ix2 0 j) = (Real.exp (total I i (hd j) (M + 256) - total I i (hd j) M) : EReal) := by
  have e : k0_pay23 (F := Ideal) A E (ix2 0 j) = Ideal.exp (∑ x, A (ix2 (255 : Fin 256) x) * E (ix2 x j)) := by
    pointwise [k0_pay23, k0_pay19, k0_pay20, k0_pay21]
  rw [e, spread (fun x => A (ix2 (255 : Fin 256) x)) j (fun x => E (ix2 x j)) (fun x => H.e x j), H.a 255 (hd j), Ideal.exp_coe]
  rfl

/-- A lane's input: its activated channel times its head's step size. -/
theorem entering (H : AtChunk I i M X B C T A E) (r : Fin 256) (j : Fin 512) :
    k0_pay24 (F := Ideal) X T E (ix2 r j) = (inR I i j (M + r.val) : EReal) := by
  have e : k0_pay24 (F := Ideal) X T E (ix2 r j) = X (ix2 r j) * ∑ x, T (ix2 r x) * E (ix2 x j) := by
    pointwise [k0_pay24]
  rw [e, spread (fun x => T (ix2 r x)) j (fun x => E (ix2 x j)) (fun x => H.e x j), H.x, H.t r (hd j), ← EReal.coe_mul]
  rfl

/-! ### The state -/

/-- The stored state of the first tile of lanes. -/
theorem state0_form (v85 : FVec Ideal S256x512 .f32) (v86 : FVec Ideal S1x512 .f32) (v127 : Vec Ideal S1x128x128 .f32) (n l : Fin 128) :
    k0_pay36 (F := Ideal) v85 v86 (k0_pay30 B) (k0_pay31 X T E) v127 (ix3 0 n l)
      = v127 (ix3 0 n l) * v86 (ix2 0 (⟨0 + l.val, by omega⟩ : Fin 512)) + ∑ x : Fin 256, B (ix2 x (⟨0 + n.val, by omega⟩ : Fin 256))
          * (k0_pay24 (F := Ideal) X T E (ix2 x (⟨0 + l.val, by omega⟩ : Fin 512)) * v85 (ix2 x (⟨0 + l.val, by omega⟩ : Fin 512))) := by
  have e : (⟨0 + l.val, by omega⟩ : Fin 512) = ⟨l.val, by omega⟩ := Fin.ext (Nat.zero_add _)
  have e' : (⟨0 + n.val, by omega⟩ : Fin 256) = ⟨n.val, by omega⟩ := Fin.ext (Nat.zero_add _)
  rw [e, e']
  pointwise [k0_pay36, k0_pay30, k0_pay31, k0_pay27, k0_pay35]

/-- The stored state of the second tile of lanes. -/
theorem state1_form (v85 : FVec Ideal S256x512 .f32) (v86 : FVec Ideal S1x512 .f32) (v87 : FVec Ideal S256x512 .f32) (v127 : Vec Ideal S1x128x128 .f32) (n l : Fin 128) :
    k0_pay44 (F := Ideal) v85 v86 (k0_pay30 B) (k0_pay38 v87) v127 (ix3 0 n l)
      = v127 (ix3 0 n l) * v86 (ix2 0 (⟨128 + l.val, by omega⟩ : Fin 512)) + ∑ x : Fin 256, B (ix2 x (⟨0 + n.val, by omega⟩ : Fin 256))
          * (v87 (ix2 x (⟨128 + l.val, by omega⟩ : Fin 512)) * v85 (ix2 x (⟨128 + l.val, by omega⟩ : Fin 512))) := by
  have e' : (⟨0 + n.val, by omega⟩ : Fin 256) = ⟨n.val, by omega⟩ := Fin.ext (Nat.zero_add _)
  rw [e']
  pointwise [k0_pay44, k0_pay30, k0_pay38, k0_pay42, k0_pay27]

/-- The stored state of the third tile of lanes. -/
theorem state2_form (v85 : FVec Ideal S256x512 .f32) (v86 : FVec Ideal S1x512 .f32) (v87 : FVec Ideal S256x512 .f32) (v127 : Vec Ideal S1x128x128 .f32) (n l : Fin 128) :
    k0_pay54 (F := Ideal) v85 v86 (k0_pay49 B) (k0_pay50 v87) (k0_pay52 v127) (ix3 0 n l)
      = v127 (ix3 0 n l) * v86 (ix2 0 (⟨256 + l.val, by omega⟩ : Fin 512)) + ∑ x : Fin 256, B (ix2 x (⟨128 + n.val, by omega⟩ : Fin 256))
          * (v87 (ix2 x (⟨256 + l.val, by omega⟩ : Fin 512)) * v85 (ix2 x (⟨256 + l.val, by omega⟩ : Fin 512))) := by
  pointwise [k0_pay54, k0_pay49, k0_pay50, k0_pay52, k0_pay46]

/-- The stored state of the fourth tile of lanes. -/
theorem state3_form (v85 : FVec Ideal S256x512 .f32) (v86 : FVec Ideal S1x512 .f32) (v87 : FVec Ideal S256x512 .f32) (v127 : Vec Ideal S1x128x128 .f32) (n l : Fin 128) :
    k0_pay62 (F := Ideal) v85 v86 (k0_pay49 B) (k0_pay56 v87) v127 (ix3 0 n l)
      = v127 (ix3 0 n l) * v86 (ix2 0 (⟨384 + l.val, by omega⟩ : Fin 512)) + ∑ x : Fin 256, B (ix2 x (⟨128 + n.val, by omega⟩ : Fin 256))
          * (v87 (ix2 x (⟨384 + l.val, by omega⟩ : Fin 512)) * v85 (ix2 x (⟨384 + l.val, by omega⟩ : Fin 512))) := by
  pointwise [k0_pay62, k0_pay49, k0_pay56, k0_pay61, k0_pay46]

/-- The common form of the stored states is the state after the chunk. -/
theorem state_after (H : AtChunk I i M X B C T A E) (n : Fin 128) (j : Fin 512) (N : Fin 256) (hN : N.val = j.val / 256 * 128 + n.val)
    (s : EReal) (hs : s = (state I i j n M : EReal)) :
    s * k0_pay23 (F := Ideal) A E (ix2 0 j) + (∑ x : Fin 256, B (ix2 x N) * (k0_pay24 (F := Ideal) X T E (ix2 x j) * k0_pay22 (F := Ideal) A E (ix2 x j)))
      = (state I i j n (M + 256) : EReal) := by
  have e : (⟨512 + N.val, by omega⟩ : Fin 1024) = chB j n := Fin.ext (by show 512 + N.val = 512 + (j.val / 256 * 128 + n.val); rw [hN])
  rw [hs, whole H, state_step, EReal.coe_add, EReal.coe_mul, ← coe_sum]
  refine congrArg _ (Finset.sum_congr rfl fun x _ => ?_)
  rw [H.b, entering H, ending H, e, ← EReal.coe_mul, ← EReal.coe_mul]

/-! ### The gated sums -/

/-- The common form of the gated sums. -/
def gateForm (X : FVec Ideal S256x512 .f32) (B C : FVec Ideal S256x256 .f32) (A : FVec Ideal S256x128 .f32) (D Z U : FVec Ideal S256x512 .f32)
    (h0 h1 : Fin 128) (o : ℕ) (ho : o + 128 ≤ 256) (off : ℕ) (hoff : off + 128 ≤ 512)
    (S : Vec Ideal S1x128x128 .f32) (K : Vec Ideal S1x128 .f32) (r : Fin 256) (l : Fin 128) : EReal :=
  (Scalar.select (IntOp.cmpi .slt (BitVec.ofNat 32 l.val) 64#32)
      (∑ x : Fin 256, (∑ y : Fin 128, C (ix2 r (⟨o + y.val, by omega⟩ : Fin 256)) * B (ix2 x (⟨o + y.val, by omega⟩ : Fin 256)))
          * Ideal.exp (Scalar.select (IntOp.cmpi .sge (BitVec.ofNat 32 r.val) (BitVec.ofNat 32 x.val)) (A (ix2 r h0) - A (ix2 x h0)) (Ideal.ofBits .f32 0xFF800000#32))
          * U (ix2 x (⟨off + l.val, by omega⟩ : Fin 512)))
      (∑ x : Fin 256, (∑ y : Fin 128, C (ix2 r (⟨o + y.val, by omega⟩ : Fin 256)) * B (ix2 x (⟨o + y.val, by omega⟩ : Fin 256)))
          * Ideal.exp (Scalar.select (IntOp.cmpi .sge (BitVec.ofNat 32 r.val) (BitVec.ofNat 32 x.val)) (A (ix2 r h1) - A (ix2 x h1)) (Ideal.ofBits .f32 0xFF800000#32))
          * U (ix2 x (⟨off + l.val, by omega⟩ : Fin 512)))
    + (∑ y : Fin 128, C (ix2 r (⟨o + y.val, by omega⟩ : Fin 256)) * S (ix3 0 y l)) * D (ix2 r (⟨off + l.val, by omega⟩ : Fin 512))
    + X (ix2 r (⟨off + l.val, by omega⟩ : Fin 512)) * K (ix2 0 l))
  * (Z (ix2 r (⟨off + l.val, by omega⟩ : Fin 512)) * Ideal.div 1 (1 + Ideal.exp (0 - Z (ix2 r (⟨off + l.val, by omega⟩ : Fin 512)))))

end

section
variable (X D Z U : FVec Ideal S256x512 .f32) (B C : FVec Ideal S256x256 .f32) (E : Vec Ideal S128x512 .f32)
variable (v45 : Vec Ideal S1x256x128 .f32) (v47 v61 : Vec Ideal S1x128 .f32) (S : Vec Ideal S1x128x128 .f32) (K : Vec Ideal S1x128 .f32)

/-- Nothing added to a coordinate. -/
theorem zero_add_fin {n k : ℕ} (a : Fin k) (h : 0 + a.val < n) : (⟨0 + a.val, h⟩ : Fin n) = ⟨a.val, by omega⟩ := Fin.ext (Nat.zero_add _)

/-- The gated sum of the first tile of lanes. -/
theorem gate0_form (r : Fin 256) (l : Fin 128) :
    k0_pay37 (F := Ideal) X D k0_pay25 Z (k0_pay28 C) (k0_pay29 B C) (k0_pay32 X (k0_pay15 v45 v47) E)
      (k0_pay33 X B C (k0_pay15 v45 v47) k0_pay16 (k0_pay17 v45 v47 v61) (k0_pay18 v45 v47 v61) E) (k0_pay34 k0_pay16 (k0_pay17 v45 v47 v61) (k0_pay18 v45 v47 v61)) S K (ix2 r l)
      = gateForm X B C (k0_pay17 v45 v47 v61) D Z (k0_pay24 X (k0_pay15 v45 v47) E) 0 1 0 (by omega) 0 (by omega) S K r l := by
  unfold gateForm
  simp only [zero_add_fin]
  pointwise [k0_pay37, k0_pay25, k0_pay28, k0_pay29, k0_pay32, k0_pay33, k0_pay34, k0_pay31, k0_pay35, k0_pay16, k0_pay18, k0_pay27]

/-- The gated sum of the second tile of lanes. -/
theorem gate1_form (r : Fin 256) (l : Fin 128) :
    k0_pay45 (F := Ideal) Z (k0_pay43 X k0_pay16 (k0_pay17 v45 v47 v61) (k0_pay18 v45 v47 v61) D k0_pay25 (k0_pay28 C) (k0_pay29 B C) (k0_pay39 U)
      (k0_pay40 (k0_pay18 v45 v47 v61)) (k0_pay41 (k0_pay17 v45 v47 v61)) S K) (ix2 r l)
      = gateForm X B C (k0_pay17 v45 v47 v61) D Z U 2 3 0 (by omega) 128 (by omega) S K r l := by
  unfold gateForm
  simp only [zero_add_fin]
  pointwise [k0_pay45, k0_pay43, k0_pay42, k0_pay38, k0_pay39, k0_pay40, k0_pay41, k0_pay25, k0_pay28, k0_pay29, k0_pay16, k0_pay18, k0_pay27]

/-- The gated sum of the third tile of lanes. -/
theorem gate2_form (r : Fin 256) (l : Fin 128) :
    k0_pay55 (F := Ideal) X D Z (k0_pay47 C) (k0_pay51 B C k0_pay16 (k0_pay17 v45 v47 v61) (k0_pay18 v45 v47 v61) U k0_pay25) (k0_pay53 S) (constant S256x128 .f32 0x00000000#32) K (ix2 r l)
      = gateForm X B C (k0_pay17 v45 v47 v61) D Z U 4 5 128 (by omega) 256 (by omega) S K r l := by
  unfold gateForm
  pointwise [k0_pay55, k0_pay51, k0_pay53, k0_pay52, k0_pay47, k0_pay48, k0_pay46, k0_pay50, k0_pay25, k0_pay16, k0_pay18]

/-- The gated sum of the fourth tile of lanes. -/
theorem gate3_form (r : Fin 256) (l : Fin 128) :
    k0_pay63 (F := Ideal) X k0_pay16 D k0_pay25 Z (k0_pay47 C) (k0_pay48 B C) (k0_pay57 U) (k0_pay58 k0_pay16 (k0_pay17 v45 v47 v61) (k0_pay18 v45 v47 v61) U (k0_pay48 B C))
      (k0_pay59 (k0_pay17 v45 v47 v61)) (k0_pay60 (k0_pay18 v45 v47 v61)) S K (ix2 r l)
      = gateForm X B C (k0_pay17 v45 v47 v61) D Z U 6 7 128 (by omega) 384 (by omega) S K r l := by
  unfold gateForm
  pointwise [k0_pay63, k0_pay57, k0_pay56, k0_pay58, k0_pay59, k0_pay60, k0_pay61, k0_pay47, k0_pay48, k0_pay46, k0_pay25, k0_pay16, k0_pay18]

end

/-- A decay that is taken where the row is at or past the column. -/
theorem faded (r x : Fin 256) (a b : ℝ) :
    Ideal.exp (Scalar.select (IntOp.cmpi .sge (BitVec.ofNat 32 r.val) (BitVec.ofNat 32 x.val)) ((a : EReal) - b) (Ideal.ofBits .f32 0xFF800000#32))
      = ((if x.val ≤ r.val then Real.exp (a - b) else 0 : ℝ) : EReal) := by
  have hr := r.isLt
  have hx := x.isLt
  rw [WordCmp.cmpi_sge_ofNat (by omega) (by omega), WordCmp.select_ofBool, bot_word]
  by_cases h : x.val ≤ r.val
  · rw [if_pos h, decide_eq_true h, ← EReal.coe_sub]
    exact Ideal.exp_coe _
  · rw [if_neg h, decide_eq_false h]
    simp

section
variable {I : Inputs} {i : Fin 2} {M : ℕ} {X : FVec Ideal S256x512 .f32} {B C : FVec Ideal S256x256 .f32}
variable {T A : FVec Ideal S256x128 .f32} {E : Vec Ideal S128x512 .f32}

/-- The part of a token's sum that lies in its chunk. -/
theorem inside (H : AtChunk I i M X B C T A E) (r : Fin 256) (j : Fin 512) (hh : Fin 128) (e : hh.val = (hd j).val) (o : ℕ) (ho : o + 128 ≤ 256)
    (eo : o = j.val / 256 * 128) :
    (∑ x : Fin 256, (∑ y : Fin 128, C (ix2 r (⟨o + y.val, by omega⟩ : Fin 256)) * B (ix2 x (⟨o + y.val, by omega⟩ : Fin 256)))
        * Ideal.exp (Scalar.select (IntOp.cmpi .sge (BitVec.ofNat 32 r.val) (BitVec.ofNat 32 x.val)) (A (ix2 r hh) - A (ix2 x hh)) (Ideal.ofBits .f32 0xFF800000#32))
        * k0_pay24 (F := Ideal) X T E (ix2 x j))
      = ((∑ x : Fin 256, score I i j (M + r.val) (M + x.val)
          * (if x.val ≤ r.val then Real.exp ((total I i (hd j) (M + r.val + 1) - total I i (hd j) M) - (total I i (hd j) (M + x.val + 1) - total I i (hd j) M)) else 0)
          * inR I i j (M + x.val) : ℝ) : EReal) := by
  have e' : hh = ⟨(hd j).val, by omega⟩ := Fin.ext e
  rw [e']
  subst eo
  rw [← coe_sum]
  refine Finset.sum_congr rfl fun x _ => ?_
  rw [H.a, H.a, faded, entering H, EReal.coe_mul, EReal.coe_mul]
  unfold score
  rw [← coe_sum]
  refine congrArg (· * _) (congrArg (· * _) (Finset.sum_congr rfl fun y _ => ?_))
  rw [H.c, H.b, EReal.coe_mul]
  rfl

/-- The gated sum at a lane is the mixer's. -/
theorem gate_chunk (H : AtChunk I i M X B C T A E) (hM : M + 256 ≤ 8192) (D Z : FVec Ideal S256x512 .f32) (S : Vec Ideal S1x128x128 .f32) (K : Vec Ideal S1x128 .f32)
    (hD : D = k0_pay21 (F := Ideal) A E) (h0 h1 : Fin 128) (o : ℕ) (ho : o + 128 ≤ 256) (off : ℕ) (hoff : off + 128 ≤ 512) (r : Fin 256) (l : Fin 128)
    (j : Fin 512) (ej : j.val = off + l.val) (e0 : l.val < 64 → h0.val = j.val / 64) (e1 : 64 ≤ l.val → h1.val = j.val / 64) (eo : o = j.val / 256 * 128)
    (hS : ∀ y : Fin 128, S (ix3 0 y l) = (state I i j y M : EReal)) (sk : EReal) (hK : K (ix2 0 l) = sk) (zz : EReal) (hZ : Z (ix2 r j) = zz)
    (a : EReal) (ha : X (ix2 r j) = a) :
    gateForm X B C A D Z (k0_pay24 (F := Ideal) X T E) h0 h1 o ho off hoff S K r l
      = ((mix I i j (M + r.val) : ℝ) + a * sk) * sil zz := by
  have hl := l.isLt
  have ej' : (⟨off + l.val, by omega⟩ : Fin 512) = j := Fin.ext ej.symm
  unfold gateForm
  rw [ej', hK, hZ, ha, zero_sub, WordCmp.cmpi_slt_ofNat (by omega) (by omega), WordCmp.select_ofBool]
  refine congrArg (· * _) (congrArg (· + _) ?_)
  rw [mix_chunk _ _ _ hM, EReal.coe_add, EReal.coe_mul, ← coe_sum, hD, decayed H]
  have e3 : (∑ y : Fin 128, C (ix2 r (⟨o + y.val, by omega⟩ : Fin 256)) * S (ix3 0 y l))
      = ((∑ n : Fin 128, actR I i (chC j n) (M + r.val) * state I i j n M : ℝ) : EReal) := by
    rw [← coe_sum]
    refine Finset.sum_congr rfl fun y _ => ?_
    subst eo
    rw [hS, H.c, EReal.coe_mul]
    rfl
  rw [e3]
  refine congrArg (· + _) ?_
  rw [coe_sum]
  · by_cases hlt : l.val < 64
    · rw [decide_eq_true hlt]
      exact inside H r _ h0 (e0 hlt) o ho eo
    · rw [decide_eq_false hlt]
      exact inside H r _ h1 (e1 (by omega)) o ho eo

end
end Cert.KernelIdeal.Ssd
-- ==== Proof.Operands.lean ====
module

public import proofs.«01_k».proof.Proof.Gen.KernelIdeal.Frame
public import proofs.«01_k».proof.Proof.Model
public import proofs.«01_k».proof.Proof.Words
public import Idealize.ShloMosaic.Lib.Pointwise
public import Idealize.ShloMosaic.Lib.Pipeline.ValueKit

/-! The blocks that the launch's operands hold at a grid point, in the arguments' coordinates. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer

variable (m : (ℓ : Loc nD τ sig) → Buf (Elt Ideal) ℓ)

/-- The launch's arguments by coordinates. -/
def inputs (c : Dev nD) : Inputs where
  u i t ch := (m ((c : Thread nD τ).loc main_arg1) : FVec Ideal S2x8192x1024 .f32) (ix3 i t ch)
  d i t h := (m ((c : Thread nD τ).loc main_arg2) : FVec Ideal S2x8192x128 .f32) (ix3 i t ⟨h.val, by omega⟩)
  z i t j := (m ((c : Thread nD τ).loc main_arg0) : FVec Ideal S2x8192x512 .f32) (ix3 i t j)
  w k ch := (m ((c : Thread nD τ).loc main_arg3) : FVec Ideal S4x1024 .f32) (ix2 k ch)
  cb ch := (m ((c : Thread nD τ).loc main_arg4) : FVec Ideal S1024 .f32) (ix1 ch)
  db h := (m ((c : Thread nD τ).loc main_arg5) : FVec Ideal S8 .f32) (ix1 h)
  al h := (m ((c : Thread nD τ).loc main_arg6) : FVec Ideal S8 .f32) (ix1 h)
  sk h := (m ((c : Thread nD τ).loc main_arg7) : FVec Ideal S8 .f32) (ix1 h)
  nw j := (m ((c : Thread nD τ).loc main_arg8) : FVec Ideal S512 .f32) (ix1 j)

/-! ### The operands the host prepares -/

/-- The step bias in a row of 128. -/
theorem entry_bias (c : Dev nD) : (V m c main_v1 : FVec Ideal S1x128 .f32) = shapeCast S1x128 (pad S128 ![0] ![120] ![0]
    (m ((c : Thread nD τ).loc main_arg5) : FVec Ideal S8 .f32) (sitofp (F := Ideal) .f32 (constantI S_ 32 0#32)) pads_S8_S128_01200 h_S_) shapeCasts_S128_S1x128 := by
  entry_read
  try rfl

/-- The decay's logarithm in a row of 128. -/
theorem entry_decay (c : Dev nD) : (V m c main_v3 : FVec Ideal S1x128 .f32) = shapeCast S1x128 (pad S128 ![0] ![120] ![0]
    (m ((c : Thread nD τ).loc main_arg6) : FVec Ideal S8 .f32) (sitofp (F := Ideal) .f32 (constantI S_ 32 0#32)) pads_S8_S128_01200 h_S_) shapeCasts_S128_S1x128 := by
  entry_read
  try rfl

/-- The skip weights, each over its head's lanes. -/
theorem entry_skip (c : Dev nD) : (V m c main_v6 : FVec Ideal S1x512 .f32) = shapeCast S1x512 (shapeCast S512
    (broadcastInDim S8x64 ![0] bcast_S8_S8x64_0 (m ((c : Thread nD τ).loc main_arg7) : FVec Ideal S8 .f32)) shapeCasts_S8x64_S512) shapeCasts_S512_S1x512 := by
  entry_read
  try rfl

/-- The convolution's bias as a row. -/
theorem entry_cbias (c : Dev nD) : (V m c main_v16 : FVec Ideal S1x1024 .f32)
    = shapeCast S1x1024 (m ((c : Thread nD τ).loc main_arg4) : FVec Ideal S1024 .f32) shapeCasts_S1024_S1x1024 := by
  entry_read
  try rfl

/-- The norm's weights as a row. -/
theorem entry_norm (c : Dev nD) : (V m c main_v17 : FVec Ideal S1x512 .f32)
    = shapeCast S1x512 (m ((c : Thread nD τ).loc main_arg8) : FVec Ideal S512 .f32) shapeCasts_S512_S1x512 := by
  entry_read
  try rfl

/-- The lanes' heads as words: the lane divided by 64, rounded down. -/
def heads : Vec Ideal S1x512 .i32 :=
  let a : Vec Ideal S1x512 .i32 := broadcastInDim S1x512 ![1] bcast_S512_S1x512_1 (iotaInDim S512 32 0)
  let k : Vec Ideal S_ .i32 := constantI S_ 32 64#32
  let kk : Vec Ideal S1x512 .i32 := broadcastInDim S1x512 ![] bcast_S_S1x512 k
  let q : Vec Ideal S1x512 .i32 := Host.divsi a kk
  select (andi (cmpi .ne (signi a) (broadcastInDim S1x512 ![] bcast_S_S1x512 (signi k))) (cmpi .ne (Host.remsi a kk) (broadcastInDim S1x512 ![] bcast_S_S1x512 (constantI S_ 32 0#32))))
    (subi q (broadcastInDim S1x512 ![] bcast_S_S1x512 (constantI S_ 32 1#32))) q

/-- The spreading table: one where the row is the lane's head. -/
theorem entry_table (c : Dev nD) : (V m c main_v15 : FVec Ideal S128x512 .f32) = uitofp (F := Ideal) .f32 (cmpi .eq
    (broadcastInDim S128x512 ![0, 1] bcast_S128x1_S128x512_0_1 (broadcastInDim S128x1 ![0] bcast_S128_S128x1_0 (iotaInDim S128 32 0)))
    (broadcastInDim S128x512 ![0, 1] bcast_S1x512_S128x512_0_1 heads)) := by
  entry_read
  try rfl

/-- A lane's head word. -/
theorem heads_at (l : Fin 512) : heads (ix2 0 l) = BitVec.ofNat 32 (l.val / 64) := by
  unfold heads
  pointwise
  revert l
  decide +kernel

theorem bias_at (c : Dev nD) (h : Fin 8) : (V m c main_v1 : FVec Ideal S1x128 .f32) (ix2 0 ⟨h.val, by omega⟩) = (inputs m c).db h := by
  rw [entry_bias]
  pointwise
  rw [dif_pos]
  · rfl
  · intro a
    match a with
    | ⟨0, _⟩ => exact h.isLt

theorem decay_at (c : Dev nD) (h : Fin 8) : (V m c main_v3 : FVec Ideal S1x128 .f32) (ix2 0 ⟨h.val, by omega⟩) = (inputs m c).al h := by
  rw [entry_decay]
  pointwise
  rw [dif_pos]
  · rfl
  · intro a
    match a with
    | ⟨0, _⟩ => exact h.isLt

theorem skip_at (c : Dev nD) (l : Fin 512) : (V m c main_v6 : FVec Ideal S1x512 .f32) (ix2 0 l) = (inputs m c).sk (hd l) := by
  rw [entry_skip]
  pointwise
  rfl

theorem cbias_at (c : Dev nD) (l : Fin 1024) : (V m c main_v16 : FVec Ideal S1x1024 .f32) (ix2 0 l) = (inputs m c).cb l := by
  rw [entry_cbias]
  pointwise
  rfl

theorem norm_at (c : Dev nD) (l : Fin 512) : (V m c main_v17 : FVec Ideal S1x512 .f32) (ix2 0 l) = (inputs m c).nw l := by
  rw [entry_norm]
  pointwise
  rfl

theorem table_at (c : Dev nD) (x : Fin 128) (l : Fin 512) :
    (V m c main_v15 : FVec Ideal S128x512 .f32) (ix2 x l) = if x.val = l.val / 64 then (1 : EReal) else 0 := by
  rw [entry_table]
  pointwise
  rw [heads_at]
  have hx := x.isLt
  have hl := l.isLt
  show (FloatOps.uitofp (F := Ideal) .f32 (BitVec.ofBool (BitVec.ofNat 32 x.val == BitVec.ofNat 32 (l.val / 64))) : EReal) = _
  by_cases e : x.val = l.val / 64
  · rw [if_pos e, e, beq_self_eq_true]
    show (((1#1 : BitVec 1).toNat : ℝ) : EReal) = 1
    simp
  · have : (BitVec.ofNat 32 x.val == BitVec.ofNat 32 (l.val / 64)) = false := by
      rw [beq_eq_false_iff_ne]
      intro h
      apply e
      have := congrArg BitVec.toNat h
      rw [BitVec.toNat_ofNat, BitVec.toNat_ofNat, Nat.mod_eq_of_lt (by omega), Nat.mod_eq_of_lt (by omega)] at this
      exact this
    rw [if_neg e, this]
    show (((0#1 : BitVec 1).toNat : ℝ) : EReal) = 0
    simp

/-! ### The blocks at a point -/

/-- The block that each window takes at a point: point `t` is batch `t / 32`, chunk `t % 32`. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 32, t.val % 32, 0] ∧ t.val < 64 :=
  (by decide +kernel : ∀ t : Fin grid0.N, _)

/-- A point's batch. -/
def bat (t : Fin cfg0.N) : Fin 2 := ⟨t.val / 32, by have := (idx t).2.2.2.2.2.2.2.2.2.2.2; omega⟩

/-- The first token of a point's chunk. -/
def first (t : Fin cfg0.N) : ℕ := t.val % 32 * 256

theorem first_le (t : Fin cfg0.N) : first t + 256 ≤ 8192 := by unfold first; omega

/-- A token of a point's chunk. -/
def tok (t : Fin cfg0.N) (r : Fin 256) : Fin 8192 := ⟨first t + r.val, by have := first_le t; omega⟩

theorem blk0_at (c : Dev nD) (t : Fin cfg0.N) (r : Fin 256) (j : Fin 512) :
    (iblk m c 0 t : FVec Ideal S1x256x512 .f32) (ix3 0 r j) = (inputs m c).z (bat t) (tok t r) j := by
  show _ = (m ((c : Thread nD τ).loc main_arg0) : FVec Ideal S2x8192x512 .f32) (ix3 (bat t) (tok t r) j)
  rw [← V_main_arg0 m c]
  unfold bat tok first
  blk_ext [iblk, idx t]

theorem blk1_at (c : Dev nD) (t : Fin cfg0.N) (r : Fin 256) (j : Fin 1024) :
    (iblk m c 1 t : FVec Ideal S1x256x1024 .f32) (ix3 0 r j) = (inputs m c).u (bat t) (tok t r) j := by
  show _ = (m ((c : Thread nD τ).loc main_arg1) : FVec Ideal S2x8192x1024 .f32) (ix3 (bat t) (tok t r) j)
  rw [← V_main_arg1 m c]
  unfold bat tok first
  blk_ext [iblk, idx t]

theorem blk2_at (c : Dev nD) (t : Fin cfg0.N) (r : Fin 256) (h : Fin 8) :
    (iblk m c 2 t : FVec Ideal S1x256x128 .f32) (ix3 0 r ⟨h.val, by omega⟩) = (inputs m c).d (bat t) (tok t r) h := by
  show _ = (m ((c : Thread nD τ).loc main_arg2) : FVec Ideal S2x8192x128 .f32) (ix3 (bat t) (tok t r) ⟨h.val, by omega⟩)
  rw [← V_main_arg2 m c]
  unfold bat tok first
  blk_ext [iblk, idx t]

theorem blk3_at (c : Dev nD) (t : Fin cfg0.N) (k : Fin 4) (j : Fin 1024) :
    (iblk m c 3 t : FVec Ideal S4x1024 .f32) (ix2 k j) = (inputs m c).w k j := by
  show _ = (m ((c : Thread nD τ).loc main_arg3) : FVec Ideal S4x1024 .f32) (ix2 k j)
  rw [← V_main_arg3 m c]
  blk_ext [iblk, idx t]

theorem blk4_at (c : Dev nD) (t : Fin cfg0.N) (j : Fin 1024) : (iblk m c 4 t : FVec Ideal S1x1024 .f32) (ix2 0 j) = (inputs m c).cb j := by
  rw [← cbias_at m c]
  blk_ext [iblk, idx t]

theorem blk5_at (c : Dev nD) (t : Fin cfg0.N) (h : Fin 8) : (iblk m c 5 t : FVec Ideal S1x128 .f32) (ix2 0 ⟨h.val, by omega⟩) = (inputs m c).db h := by
  rw [← bias_at m c]
  blk_ext [iblk, idx t]

theorem blk6_at (c : Dev nD) (t : Fin cfg0.N) (h : Fin 8) : (iblk m c 6 t : FVec Ideal S1x128 .f32) (ix2 0 ⟨h.val, by omega⟩) = (inputs m c).al h := by
  rw [← decay_at m c]
  blk_ext [iblk, idx t]

theorem blk7_at (c : Dev nD) (t : Fin cfg0.N) (j : Fin 512) : (iblk m c 7 t : FVec Ideal S1x512 .f32) (ix2 0 j) = (inputs m c).sk (hd j) := by
  rw [← skip_at m c]
  blk_ext [iblk, idx t]

theorem blk8_at (c : Dev nD) (t : Fin cfg0.N) (j : Fin 512) : (iblk m c 8 t : FVec Ideal S1x512 .f32) (ix2 0 j) = (inputs m c).nw j := by
  rw [← norm_at m c]
  blk_ext [iblk, idx t]

theorem blk9_at (c : Dev nD) (t : Fin cfg0.N) (x : Fin 128) (j : Fin 512) :
    (iblk m c 9 t : FVec Ideal S128x512 .f32) (ix2 x j) = if x.val = j.val / 64 then (1 : EReal) else 0 := by
  rw [← table_at m c]
  blk_ext [iblk, idx t]

end Cert.KernelIdeal.Ssd
-- ==== Proof.Blocks.lean ====
module

public import proofs.«01_k».proof.Proof.Chunk
public import proofs.«01_k».proof.Proof.Operands

/-! The launch's intermediate arrays at a grid point are the mixer's: the convolved and activated channels, the step sizes
    and the running decays of the point's chunk. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer
open scoped BigOperators

variable (m : (ℓ : Loc nD τ sig) → Buf (Elt Ideal) ℓ)

/-- A row of a chunk that starts `d` rows before the chunk, out of the chunk's rows and the eight rows before it. -/
def shifted (I : Inputs) (t : Fin cfg0.N) (P : Fin 8 → Fin 1024 → EReal) (d : ℕ) (hd : d ≤ 8) (r : Fin 256) (ch : Fin 1024) : EReal :=
  if h : d ≤ r.val then I.u (bat t) (tok t ⟨r.val - d, by omega⟩) ch else P ⟨8 - d + r.val, by omega⟩ ch

/-- If the eight rows are the tokens before the chunk, the shifted rows are the tokens `d` before. -/
theorem shifted_eq (I : Inputs) (t : Fin cfg0.N) (P : Fin 8 → Fin 1024 → EReal)
    (hP : ∀ r ch, P r ch = prev I (8 - r.val) (bat t) (tok t 0) ch) (d : ℕ) (hd : d ≤ 8) (r : Fin 256) (ch : Fin 1024) :
    shifted I t P d hd r ch = prev I d (bat t) (tok t r) ch := by
  unfold shifted
  by_cases h : d ≤ r.val
  · rw [dif_pos h]
    unfold prev
    have h2 : d ≤ (tok t r).val := le_trans h (Nat.le_add_left _ _)
    rw [if_pos h2]
    congr 1
    exact Fin.ext (by show first t + (r.val - d) = first t + r.val - d; omega)
  · rw [dif_neg h, hP]
    unfold prev
    have e0 : (tok t 0).val = first t := Nat.add_zero _
    have er : (tok t r).val = first t + r.val := rfl
    by_cases h2 : d ≤ (tok t r).val
    · rw [if_pos h2, if_pos (by rw [e0]; show 8 - (8 - d + r.val) ≤ _; omega)]
      congr 1
      exact Fin.ext (by show (tok t 0).val - (8 - (8 - d + r.val)) = (tok t r).val - d; omega)
    · rw [if_neg h2, if_neg (by rw [e0]; show ¬ 8 - (8 - d + r.val) ≤ _; omega)]

/-- The convolved channels at a lane. -/
theorem conv_form (v3 : Vec Ideal S1x256x1024 .f32) (v8 v10 v15 v20 v25 : Vec Ideal S1x1024 .f32) (v16 v21 v26 : Vec Ideal S256x1024 .f32)
    (r : Fin 256) (ch : Fin 1024) : k0_pay8 (F := Ideal) v3 v8 v10 v15 v16 v20 v21 v25 v26 (ix2 r ch)
      = v8 (ix2 0 ch) + v10 (ix2 0 ch) * v3 (ix3 0 r ch) + v15 (ix2 0 ch) * v16 (ix2 r ch) + v20 (ix2 0 ch) * v21 (ix2 r ch) + v25 (ix2 0 ch) * v26 (ix2 r ch) := by
  pointwise [k0_pay8, k0_pay6]

/-- The convolved channels are the mixer's. -/
theorem conv_at (c : Dev nD) (t : Fin cfg0.N) (w3 w2 w1 w0 : Vec Ideal S1x1024 .f32) (L1 L2 L3 : Vec Ideal S256x1024 .f32)
    (h3 : ∀ ch, w3 (ix2 0 ch) = (inputs m c).w 3 ch) (h2 : ∀ ch, w2 (ix2 0 ch) = (inputs m c).w 2 ch)
    (h1 : ∀ ch, w1 (ix2 0 ch) = (inputs m c).w 1 ch) (h0 : ∀ ch, w0 (ix2 0 ch) = (inputs m c).w 0 ch)
    (g1 : ∀ r ch, L1 (ix2 r ch) = prev (inputs m c) 1 (bat t) (tok t r) ch) (g2 : ∀ r ch, L2 (ix2 r ch) = prev (inputs m c) 2 (bat t) (tok t r) ch)
    (g3 : ∀ r ch, L3 (ix2 r ch) = prev (inputs m c) 3 (bat t) (tok t r) ch) (r : Fin 256) (ch : Fin 1024) :
    k0_pay8 (F := Ideal) (iblk m c 1 t) (iblk m c 4 t) w3 w2 L1 w1 L2 w0 L3 (ix2 r ch) = conv (inputs m c) (bat t) (tok t r) ch := by
  rw [conv_form, h3, h2, h1, h0, g1, g2, g3, blk1_at, blk4_at]
  unfold conv
  rw [mul_comm ((inputs m c).w 3 ch), mul_comm ((inputs m c).w 2 ch), mul_comm ((inputs m c).w 1 ch), mul_comm ((inputs m c).w 0 ch)]
  ac_rfl

/-- The activated channels are the mixer's. -/
theorem act_at (I : Inputs) (i : Fin 2) (t : Fin cfg0.N) (cv : FVec Ideal S256x1024 .f32) (hc : ∀ r ch, cv (ix2 r ch) = conv I i (tok t r) ch)
    (r : Fin 256) (ch : Fin 1024) : k0_pay11 (F := Ideal) cv (ix2 r ch) = act I i (tok t r) ch := by
  have e : k0_pay11 (F := Ideal) cv (ix2 r ch) = cv (ix2 r ch) * Ideal.div 1 (1 + Ideal.exp (0 - cv (ix2 r ch))) := by
    pointwise [k0_pay11]
  rw [e, hc, zero_sub]
  rfl

/-- The first 512 activated channels. -/
theorem lanes_at (cv : FVec Ideal S256x1024 .f32) (r : Fin 256) (j : Fin 512) :
    k0_pay12 (F := Ideal) cv (ix2 r j) = k0_pay11 (F := Ideal) cv (ix2 r (chX j)) := by
  unfold chX
  pointwise [k0_pay12]

/-- The next 256 activated channels. -/
theorem ins_at (cv : FVec Ideal S256x1024 .f32) (r : Fin 256) (n : Fin 256) :
    k0_pay13 (F := Ideal) cv (ix2 r n) = k0_pay11 (F := Ideal) cv (ix2 r (⟨512 + n.val, by omega⟩ : Fin 1024)) := by
  pointwise [k0_pay13]

/-- The last 256 activated channels. -/
theorem outs_at (cv : FVec Ideal S256x1024 .f32) (r : Fin 256) (n : Fin 256) :
    k0_pay14 (F := Ideal) cv (ix2 r n) = k0_pay11 (F := Ideal) cv (ix2 r (⟨768 + n.val, by omega⟩ : Fin 1024)) := by
  pointwise [k0_pay14]

/-- The step sizes are the mixer's. -/
theorem step_at (c : Dev nD) (t : Fin cfg0.N) (r : Fin 256) (h : Fin 8) :
    k0_pay15 (F := Ideal) (iblk m c 2 t) (iblk m c 5 t) (ix2 r ⟨h.val, by omega⟩) = step (inputs m c) (bat t) (tok t r) h := by
  have e : ∀ (v45 : Vec Ideal S1x256x128 .f32) (v47 : Vec Ideal S1x128 .f32) (r : Fin 256) (x : Fin 128), k0_pay15 (F := Ideal) v45 v47 (ix2 r x)
      = max (v45 (ix3 0 r x) + v47 (ix2 0 x)) 0 + Ideal.log (1 + Ideal.exp (0 - FloatOps.absf (F := Ideal) (φ := .f32) (v45 (ix3 0 r x) + v47 (ix2 0 x)))) := by
    intro v45 v47 r x
    pointwise [k0_pay15]
  rw [e, blk2_at, blk5_at, zero_sub]
  rfl

/-- A comparison's bit, widened and converted, is one or zero. -/
theorem bit_at (r x : Fin 256) : (FloatOps.sitofp (F := Ideal) .f32 (BitVec.setWidth 32 (IntOp.cmpi .sge (BitVec.ofNat 32 r.val) (BitVec.ofNat 32 x.val))) : EReal)
    = if x.val ≤ r.val then 1 else 0 := by
  have hr := r.isLt
  have hx := x.isLt
  rw [WordCmp.cmpi_sge_ofNat (by omega) (by omega)]
  by_cases h : x.val ≤ r.val
  · rw [decide_eq_true h, if_pos h]
    show ((((BitVec.setWidth 32 (BitVec.ofBool true)).toInt : ℤ) : ℝ) : EReal) = 1
    have : (BitVec.setWidth 32 (BitVec.ofBool true)).toInt = 1 := by decide
    rw [this]; simp
  · rw [decide_eq_false h, if_neg h]
    show ((((BitVec.setWidth 32 (BitVec.ofBool false)).toInt : ℤ) : ℝ) : EReal) = 0
    have : (BitVec.setWidth 32 (BitVec.ofBool false)).toInt = 0 := by decide
    rw [this]; simp

/-- The running decays are the mixer's. -/
theorem decays_at (c : Dev nD) (hI : (inputs m c).Finite) (t : Fin cfg0.N) (r : Fin 256) (h : Fin 8) :
    k0_pay17 (F := Ideal) (iblk m c 2 t) (iblk m c 5 t) (iblk m c 6 t) (ix2 r ⟨h.val, by omega⟩)
      = ((total (inputs m c) (bat t) h (first t + r.val + 1) - total (inputs m c) (bat t) h (first t) : ℝ) : EReal) := by
  have e : ∀ (v45 : Vec Ideal S1x256x128 .f32) (v47 v61 : Vec Ideal S1x128 .f32) (r : Fin 256) (l : Fin 128), k0_pay17 (F := Ideal) v45 v47 v61 (ix2 r l)
      = ∑ x : Fin 256, FloatOps.sitofp (F := Ideal) .f32 (BitVec.setWidth 32 (IntOp.cmpi .sge (BitVec.ofNat 32 r.val) (BitVec.ofNat 32 x.val)))
          * (k0_pay15 (F := Ideal) v45 v47 (ix2 x l) * (0 - Ideal.exp (v61 (ix2 0 l)))) := by
    intro v45 v47 v61 r l
    pointwise [k0_pay17, k0_pay16]
  have hM := first_le t
  have er : total (inputs m c) (bat t) h (first t + r.val + 1) - total (inputs m c) (bat t) h (first t)
      = ∑ x : Fin 256, (if x.val ≤ r.val then rateR (inputs m c) (bat t) h (first t + x.val) else 0) := by
    unfold total
    rw [add_assoc, Finset.sum_range_add, add_sub_cancel_left,
      Fin.sum_univ_eq_sum_range (fun x => if x ≤ r.val then rateR (inputs m c) (bat t) h (first t + x) else 0) 256, ← Finset.sum_filter]
    refine Finset.sum_congr ?_ fun _ _ => rfl
    ext x
    have := r.isLt
    simp only [Finset.mem_range, Finset.mem_filter]
    omega
  rw [e, er, ← coe_sum]
  refine Finset.sum_congr rfl fun x _ => ?_
  rw [bit_at, step_at, blk6_at, zero_sub]
  have e2 : step (inputs m c) (bat t) (tok t x) h * -Ideal.exp ((inputs m c).al h) = (rateR (inputs m c) (bat t) h (first t + x.val) : EReal) :=
    rate_eq hI (bat t) (first t + x.val) (by have := x.isLt; omega) h
  rw [e2]
  by_cases hx : x.val ≤ r.val
  · rw [if_pos hx, if_pos hx, one_mul]
  · rw [if_neg hx, if_neg hx, zero_mul]; rfl

/-- The point's arrays are its chunk's. -/
theorem at_chunk (c : Dev nD) (hI : (inputs m c).Finite) (t : Fin cfg0.N) (cv : FVec Ideal S256x1024 .f32)
    (hc : ∀ r ch, cv (ix2 r ch) = conv (inputs m c) (bat t) (tok t r) ch) :
    AtChunk (inputs m c) (bat t) (first t) (k0_pay12 (F := Ideal) cv) (k0_pay13 (F := Ideal) cv) (k0_pay14 (F := Ideal) cv)
      (k0_pay15 (F := Ideal) (iblk m c 2 t) (iblk m c 5 t)) (k0_pay17 (F := Ideal) (iblk m c 2 t) (iblk m c 5 t) (iblk m c 6 t)) (iblk m c 9 t) where
  x r j := by
    rw [lanes_at, act_at (inputs m c) (bat t) t cv hc]
    exact act_eq hI _ _ (tok t r).isLt _
  b r n := by
    rw [ins_at, act_at (inputs m c) (bat t) t cv hc]
    exact act_eq hI _ _ (tok t r).isLt _
  c r n := by
    rw [outs_at, act_at (inputs m c) (bat t) t cv hc]
    exact act_eq hI _ _ (tok t r).isLt _
  t r h := by
    rw [step_at]
    exact step_eq hI _ _ (tok t r).isLt _
  a r h := decays_at m c hI t r h
  e x j := blk9_at m c t x j

end Cert.KernelIdeal.Ssd
-- ==== Proof.Stores.lean ====
module

public import proofs.«01_k».proof.Proof.Blocks
public import Idealize.ShloMosaic.Lib.WritesUnit
public import Idealize.ShloMosaic.Lib.Pipeline.ReadBack

/-! What the launch's stores leave at an index, and what its loads of the carried arrays read. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer

/-- Under the last store, its payload. -/
theorem left_under {s : Shape} {e : EltTy} {off size : Fin s.rank → ℕ} (inb : ∀ a, off a + size a ≤ s.size a)
    (w : (Rect.unit off size inb).shape.Idx → Elt Ideal e) (L : List (View.Piece (Elt Ideal) s e)) (y : s.Idx) (x : (Rect.unit off size inb).shape.Idx)
    (hx : ∀ a, (y a).val = off a + (x a).val) : View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ w L x

/-- Off the last store on some axis, what the earlier stores left. -/
theorem left_off {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon (⟨Rect.unit off size inb, w⟩ :: L) y = View.canon L y := by
  refine View.canon_cons_of_not_mem _ L ?_
  rw [Rect.mem_set_unit]
  intro hall
  have := hall a
  omega

/-- The carried rows after a point: the first eight are the store at row zero's. -/
theorem rows_left (i0 : ∀ a : Fin 2, (![0, 0] : Fin 2 → ℕ) a + (![8, 1024] : Fin 2 → ℕ) a ≤ S264x1024.size a) (w : Vec Ideal S8x1024 .f32)
    (L : List (View.Piece (Elt Ideal) S264x1024 .f32)) (r : Fin 8) (ch : Fin 1024) :
    View.canon ((⟨Rect.unit (s := S264x1024) ![0, 0] ![8, 1024] i0, w⟩ : View.Piece (Elt Ideal) S264x1024 .f32) :: L) (ix2 (⟨r.val, by omega⟩ : Fin 264) ch) = w (ix2 r ch) := by
  refine left_under (s := S264x1024) i0 w L _ (ix2 r ch) fun a => ?_
  match a with
  | ⟨0, _⟩ => exact (Nat.zero_add _).symm
  | ⟨1, _⟩ => exact (Nat.zero_add _).symm

/-- The carried state after a point: tile `k` is the store at `k`'s. -/
theorem tiles_left (i3 : ∀ a : Fin 3, (![3, 0, 0] : Fin 3 → ℕ) a + (![1, 128, 128] : Fin 3 → ℕ) a ≤ S4x128x128.size a)
    (i2 : ∀ a : Fin 3, (![2, 0, 0] : Fin 3 → ℕ) a + (![1, 128, 128] : Fin 3 → ℕ) a ≤ S4x128x128.size a)
    (i1 : ∀ a : Fin 3, (![1, 0, 0] : Fin 3 → ℕ) a + (![1, 128, 128] : Fin 3 → ℕ) a ≤ S4x128x128.size a)
    (i0 : ∀ a : Fin 3, (![0, 0, 0] : Fin 3 → ℕ) a + (![1, 128, 128] : Fin 3 → ℕ) a ≤ S4x128x128.size a)
    (w3 w2 w1 w0 : Vec Ideal S1x128x128 .f32) (L : List (View.Piece (Elt Ideal) S4x128x128 .f32)) (f : Fin 4 → Fin 128 → Fin 128 → EReal)
    (h0 : ∀ n l, w0 (ix3 0 n l) = f 0 n l) (h1 : ∀ n l, w1 (ix3 0 n l) = f 1 n l) (h2 : ∀ n l, w2 (ix3 0 n l) = f 2 n l) (h3 : ∀ n l, w3 (ix3 0 n l) = f 3 n l)
    (k : Fin 4) (n l : Fin 128) :
    View.canon ((⟨Rect.unit (s := S4x128x128) ![3, 0, 0] ![1, 128, 128] i3, w3⟩ : View.Piece (Elt Ideal) S4x128x128 .f32)
      :: ⟨Rect.unit (s := S4x128x128) ![2, 0, 0] ![1, 128, 128] i2, w2⟩ :: ⟨Rect.unit (s := S4x128x128) ![1, 0, 0] ![1, 128, 128] i1, w1⟩
      :: ⟨Rect.unit (s := S4x128x128) ![0, 0, 0] ![1, 128, 128] i0, w0⟩ :: L) (ix3 k n l) = f k n l := by
  have hin : ∀ (q : Fin 4) (a : Fin 3), ((ix3 q n l : S4x128x128.Idx) a).val = (![q.val, 0, 0] : Fin 3 → ℕ) a + ((ix3 0 n l : S1x128x128.Idx) a).val := by
    intro q a
    match a with
    | ⟨0, _⟩ => rfl
    | ⟨1, _⟩ => exact (Nat.zero_add _).symm
    | ⟨2, _⟩ => exact (Nat.zero_add _).symm
  have out : ∀ (q o : Fin 4), q ≠ o → ((ix3 q n l : S4x128x128.Idx) (0 : Fin 3)).val < (![o.val, 0, 0] : Fin 3 → ℕ) 0
      ∨ (![o.val, 0, 0] : Fin 3 → ℕ) 0 + (![1, 128, 128] : Fin 3 → ℕ) 0 ≤ ((ix3 q n l : S4x128x128.Idx) (0 : Fin 3)).val := by
    intro q o hne
    have hne' : q.val ≠ o.val := fun h => hne (Fin.ext h)
    show q.val < o.val ∨ o.val + 1 ≤ q.val
    omega
  match k with
  | 3 => exact (left_under (s := S4x128x128) i3 w3 _ _ (ix3 0 n l) (hin 3)).trans (h3 n l)
  | 2 =>
    refine (left_off (s := S4x128x128) i3 w3 _ _ 0 (out 2 3 (by decide))).trans ?_
    exact (left_under (s := S4x128x128) i2 w2 _ _ (ix3 0 n l) (hin 2)).trans (h2 n l)
  | 1 =>
    refine (left_off (s := S4x128x128) i3 w3 _ _ 0 (out 1 3 (by decide))).trans ?_
    refine (left_off (s := S4x128x128) i2 w2 _ _ 0 (out 1 2 (by decide))).trans ?_
    exact (left_under (s := S4x128x128) i1 w1 _ _ (ix3 0 n l) (hin 1)).trans (h1 n l)
  | 0 =>
    refine (left_off (s := S4x128x128) i3 w3 _ _ 0 (out 0 3 (by decide))).trans ?_
    refine (left_off (s := S4x128x128) i2 w2 _ _ 0 (out 0 2 (by decide))).trans ?_
    refine (left_off (s := S4x128x128) i1 w1 _ _ 0 (out 0 1 (by decide))).trans ?_
    exact (left_under (s := S4x128x128) i0 w0 _ _ (ix3 0 n l) (hin 0)).trans (h0 n l)

/-- The result after a point: each tile of 128 lanes is its store's. -/
theorem lanes_left (i3 : ∀ a : Fin 3, (![0, 0, 384] : Fin 3 → ℕ) a + (![1, 256, 128] : Fin 3 → ℕ) a ≤ S1x256x512.size a)
    (i2 : ∀ a : Fin 3, (![0, 0, 256] : Fin 3 → ℕ) a + (![1, 256, 128] : Fin 3 → ℕ) a ≤ S1x256x512.size a)
    (i1 : ∀ a : Fin 3, (![0, 0, 128] : Fin 3 → ℕ) a + (![1, 256, 128] : Fin 3 → ℕ) a ≤ S1x256x512.size a)
    (i0 : ∀ a : Fin 3, (![0, 0, 0] : Fin 3 → ℕ) a + (![1, 256, 128] : Fin 3 → ℕ) a ≤ S1x256x512.size a)
    (w3 w2 w1 w0 : Vec Ideal S1x256x128 .bf16) (L : List (View.Piece (Elt Ideal) S1x256x512 .bf16)) (f : Fin 256 → Fin 512 → EReal)
    (h0 : ∀ r (l : Fin 128), w0 (ix3 0 r l) = f r ⟨0 + l.val, by omega⟩) (h1 : ∀ r (l : Fin 128), w1 (ix3 0 r l) = f r ⟨128 + l.val, by omega⟩)
    (h2 : ∀ r (l : Fin 128), w2 (ix3 0 r l) = f r ⟨256 + l.val, by omega⟩) (h3 : ∀ r (l : Fin 128), w3 (ix3 0 r l) = f r ⟨384 + l.val, by omega⟩)
    (r : Fin 256) (j : Fin 512) :
    View.canon ((⟨Rect.unit (s := S1x256x512) ![0, 0, 384] ![1, 256, 128] i3, w3⟩ : View.Piece (Elt Ideal) S1x256x512 .bf16)
      :: ⟨Rect.unit (s := S1x256x512) ![0, 0, 256] ![1, 256, 128] i2, w2⟩ :: ⟨Rect.unit (s := S1x256x512) ![0, 0, 128] ![1, 256, 128] i1, w1⟩
      :: ⟨Rect.unit (s := S1x256x512) ![0, 0, 0] ![1, 256, 128] i0, w0⟩ :: L) (ix3 0 r j) = f r j := by
  have hj := j.isLt
  have hin : ∀ (o : ℕ) (l : Fin 128), j.val = o + l.val → ∀ a : Fin 3, ((ix3 0 r j : S1x256x512.Idx) a).val = (![0, 0, o] : Fin 3 → ℕ) a + ((ix3 0 r l : S1x256x128.Idx) a).val := by
    intro o l e a
    match a with
    | ⟨0, _⟩ => rfl
    | ⟨1, _⟩ => exact (Nat.zero_add _).symm
    | ⟨2, _⟩ => exact e
  have out : ∀ o : ℕ, j.val < o → ((ix3 0 r j : S1x256x512.Idx) (2 : Fin 3)).val < (![0, 0, o] : Fin 3 → ℕ) 2
      ∨ (![0, 0, o] : Fin 3 → ℕ) 2 + (![1, 256, 128] : Fin 3 → ℕ) 2 ≤ ((ix3 0 r j : S1x256x512.Idx) (2 : Fin 3)).val := fun o h => Or.inl h
  have at' : ∀ (o : ℕ) (l : Fin 128) (e : j.val = o + l.val) (v : Fin 512), v.val = o + l.val → f r v = f r j := by
    intro o l e v hv
    exact congrArg (f r) (Fin.ext (hv.trans e.symm))
  by_cases c3 : 384 ≤ j.val
  · have e : j.val = 384 + (⟨j.val - 384, by omega⟩ : Fin 128).val := by show _ = 384 + (j.val - 384); omega
    exact ((left_under (s := S1x256x512) i3 w3 _ _ (ix3 0 r _) (hin 384 _ e)).trans (h3 r _)).trans (at' 384 _ e _ rfl)
  refine (left_off (s := S1x256x512) i3 w3 _ _ 2 (out 384 (by omega))).trans ?_
  by_cases c2 : 256 ≤ j.val
  · have e : j.val = 256 + (⟨j.val - 256, by omega⟩ : Fin 128).val := by show _ = 256 + (j.val - 256); omega
    exact ((left_under (s := S1x256x512) i2 w2 _ _ (ix3 0 r _) (hin 256 _ e)).trans (h2 r _)).trans (at' 256 _ e _ rfl)
  refine (left_off (s := S1x256x512) i2 w2 _ _ 2 (out 256 (by omega))).trans ?_
  by_cases c1 : 128 ≤ j.val
  · have e : j.val = 128 + (⟨j.val - 128, by omega⟩ : Fin 128).val := by show _ = 128 + (j.val - 128); omega
    exact ((left_under (s := S1x256x512) i1 w1 _ _ (ix3 0 r _) (hin 128 _ e)).trans (h1 r _)).trans (at' 128 _ e _ rfl)
  refine (left_off (s := S1x256x512) i1 w1 _ _ 2 (out 128 (by omega))).trans ?_
  have e : j.val = 0 + (⟨j.val, by omega⟩ : Fin 128).val := (Nat.zero_add _).symm
  exact ((left_under (s := S1x256x512) i0 w0 _ _ (ix3 0 r _) (hin 0 _ e)).trans (h0 r _)).trans (at' 0 _ e _ rfl)

end Cert.KernelIdeal.Ssd
-- ==== Proof.Point.lean ====
module

public import proofs.«01_k».proof.Proof.Stores

/-! What a grid point stores, from the convolved channels and the four state tiles that it loads: the mixer's state after
    the chunk, and the mixer's result over the chunk. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer
open scoped BigOperators

/-! ### The norm -/

theorem word_256 : Ideal.ofBits .f32 0x43800000#32 = ((256 : ℝ) : EReal) := by
  simp [Ideal.ofBits, Ideal.ieee]
  rw [← EReal.coe_mul]
  norm_num

theorem word_inv_256 : Ideal.ofBits .f32 0x3B800000#32 = ((1 / 256 : ℝ) : EReal) := by
  simp [Ideal.ofBits, Ideal.ieee]
  rw [← EReal.coe_mul]
  norm_num

/-- A sum over a group's 256 lanes is the sum over its two tiles. -/
theorem sum_two (f : Fin 256 → EReal) : ∑ x : Fin 256, f x = (∑ x : Fin 128, f ⟨x.val, by omega⟩) + ∑ x : Fin 128, f ⟨128 + x.val, by omega⟩ :=
  Fin.sum_univ_add (a := 128) (b := 128) (f := f)

/-- The mixer's result from the gated sums of the two tiles of its group. -/
theorem norm_pair (I : Inputs) (i : Fin 2) (t : Fin 8192) (j : Fin 512) (a b : Fin 128 → EReal)
    (ha : ∀ x, a x = gate I i t ⟨j.val / 256 * 256 + x.val, by omega⟩) (hb : ∀ x, b x = gate I i t ⟨j.val / 256 * 256 + 128 + x.val, by omega⟩) :
    gate I i t j * Ideal.rsqrt ((∑ x, a x * a x + ∑ x, b x * b x) * Ideal.ofBits .f32 0x3B800000#32 + Ideal.ofBits .f32 0x358637BD#32) * I.nw j
      = out I i t j := by
  unfold out
  rw [word_256, word_inv_256, Ideal.div_coe (by norm_num : (256 : ℝ) ≠ 0), sum_two]
  have e1 : ∀ x : Fin 128, a x = gate I i t (mate j ⟨x.val, by omega⟩) := fun x => ha x
  have e2 : ∀ x : Fin 128, b x = gate I i t (mate j ⟨128 + x.val, by omega⟩) := fun x => by
    rw [hb]; exact congrArg _ (Fin.ext (Nat.add_assoc _ _ _))
  simp only [e1, e2]

section
variable (g0 g1 : FVec Ideal S256x128 .f32) (w : Vec Ideal S1x128 .f32) (r : Fin 256) (l : Fin 128)

/-- The normed result at a lane of the first tile of a group. -/
theorem norm0_form : k0_pay65 (F := Ideal) g0 g1 w (ix3 0 r l) = g0 (ix2 r l) * Ideal.rsqrt ((∑ x, g0 (ix2 r x) * g0 (ix2 r x)
    + ∑ x, g1 (ix2 r x) * g1 (ix2 r x)) * Ideal.ofBits .f32 0x3B800000#32 + Ideal.ofBits .f32 0x358637BD#32) * w (ix2 0 l) := by
  pointwise [k0_pay65, k0_pay64]

theorem norm1_form : k0_pay66 (F := Ideal) g0 g1 w (ix3 0 r l) = g1 (ix2 r l) * Ideal.rsqrt ((∑ x, g0 (ix2 r x) * g0 (ix2 r x)
    + ∑ x, g1 (ix2 r x) * g1 (ix2 r x)) * Ideal.ofBits .f32 0x3B800000#32 + Ideal.ofBits .f32 0x358637BD#32) * w (ix2 0 l) := by
  pointwise [k0_pay66, k0_pay64]

theorem norm2_form : k0_pay2 (F := Ideal) g0 (k0_pay67 g0 g1) w (ix3 0 r l) = g0 (ix2 r l) * Ideal.rsqrt ((∑ x, g0 (ix2 r x) * g0 (ix2 r x)
    + ∑ x, g1 (ix2 r x) * g1 (ix2 r x)) * Ideal.ofBits .f32 0x3B800000#32 + Ideal.ofBits .f32 0x358637BD#32) * w (ix2 0 l) := by
  pointwise [k0_pay2, k0_pay67, k0_pay1]

theorem norm3_form : k0_pay3 (F := Ideal) g1 (k0_pay67 g0 g1) w (ix3 0 r l) = g1 (ix2 r l) * Ideal.rsqrt ((∑ x, g0 (ix2 r x) * g0 (ix2 r x)
    + ∑ x, g1 (ix2 r x) * g1 (ix2 r x)) * Ideal.ofBits .f32 0x3B800000#32 + Ideal.ofBits .f32 0x358637BD#32) * w (ix2 0 l) := by
  pointwise [k0_pay3, k0_pay67, k0_pay1]
end

variable (m : (ℓ : Loc nD τ sig) → Buf (Elt Ideal) ℓ)

/-- The lane `l` of tile `k`. -/
def lane (k : Fin 4) (l : Fin 128) : Fin 512 := ⟨k.val * 128 + l.val, by omega⟩

/-- The state tiles that hold the state before a point's chunk. -/
def Holds (c : Dev nD) (t : Fin cfg0.N) (k : Fin 4) (s : Vec Ideal S1x128x128 .f32) : Prop :=
  ∀ n l, s (ix3 0 n l) = (state (inputs m c) (bat t) (lane k l) n (first t) : EReal)

section
variable (c : Dev nD) (hI : (inputs m c).Finite) (t : Fin cfg0.N) (cv : FVec Ideal S256x1024 .f32)
variable (hc : ∀ r ch, cv (ix2 r ch) = conv (inputs m c) (bat t) (tok t r) ch)
variable (s0 s1 s2 s3 : Vec Ideal S1x128x128 .f32)
variable (h0 : Holds m c t 0 s0) (h1 : Holds m c t 1 s1) (h2 : Holds m c t 2 s2) (h3 : Holds m c t 3 s3)

include hI hc h0 h1 h2 h3

/-- The stored state is the mixer's after the chunk. -/
theorem new_state (i3 : ∀ a : Fin 3, (![3, 0, 0] : Fin 3 → ℕ) a + (![1, 128, 128] : Fin 3 → ℕ) a ≤ S4x128x128.size a)
    (i2 : ∀ a : Fin 3, (![2, 0, 0] : Fin 3 → ℕ) a + (![1, 128, 128] : Fin 3 → ℕ) a ≤ S4x128x128.size a)
    (i1 : ∀ a : Fin 3, (![1, 0, 0] : Fin 3 → ℕ) a + (![1, 128, 128] : Fin 3 → ℕ) a ≤ S4x128x128.size a)
    (i0 : ∀ a : Fin 3, (![0, 0, 0] : Fin 3 → ℕ) a + (![1, 128, 128] : Fin 3 → ℕ) a ≤ S4x128x128.size a)
    (L : List (View.Piece (Elt Ideal) S4x128x128 .f32)) (k : Fin 4) (n l : Fin 128) :
    View.canon ((⟨Rect.unit (s := S4x128x128) ![3, 0, 0] ![1, 128, 128] i3,
        k0_pay62 (F := Ideal) (k0_pay22 (k0_pay17 (iblk m c 2 t) (iblk m c 5 t) (iblk m c 6 t)) (iblk m c 9 t)) (k0_pay23 (k0_pay17 (iblk m c 2 t) (iblk m c 5 t) (iblk m c 6 t)) (iblk m c 9 t)) (k0_pay49 (k0_pay13 cv))
          (k0_pay56 (k0_pay24 (k0_pay12 cv) (k0_pay15 (iblk m c 2 t) (iblk m c 5 t)) (iblk m c 9 t))) s3⟩ : View.Piece (Elt Ideal) S4x128x128 .f32)
      :: ⟨Rect.unit (s := S4x128x128) ![2, 0, 0] ![1, 128, 128] i2,
        k0_pay54 (F := Ideal) (k0_pay22 (k0_pay17 (iblk m c 2 t) (iblk m c 5 t) (iblk m c 6 t)) (iblk m c 9 t)) (k0_pay23 (k0_pay17 (iblk m c 2 t) (iblk m c 5 t) (iblk m c 6 t)) (iblk m c 9 t)) (k0_pay49 (k0_pay13 cv))
          (k0_pay50 (k0_pay24 (k0_pay12 cv) (k0_pay15 (iblk m c 2 t) (iblk m c 5 t)) (iblk m c 9 t))) (k0_pay52 s2)⟩
      :: ⟨Rect.unit (s := S4x128x128) ![1, 0, 0] ![1, 128, 128] i1,
        k0_pay44 (F := Ideal) (k0_pay22 (k0_pay17 (iblk m c 2 t) (iblk m c 5 t) (iblk m c 6 t)) (iblk m c 9 t)) (k0_pay23 (k0_pay17 (iblk m c 2 t) (iblk m c 5 t) (iblk m c 6 t)) (iblk m c 9 t)) (k0_pay30 (k0_pay13 cv))
          (k0_pay38 (k0_pay24 (k0_pay12 cv) (k0_pay15 (iblk m c 2 t) (iblk m c 5 t)) (iblk m c 9 t))) s1⟩
      :: ⟨Rect.unit (s := S4x128x128) ![0, 0, 0] ![1, 128, 128] i0,
        k0_pay36 (F := Ideal) (k0_pay22 (k0_pay17 (iblk m c 2 t) (iblk m c 5 t) (iblk m c 6 t)) (iblk m c 9 t)) (k0_pay23 (k0_pay17 (iblk m c 2 t) (iblk m c 5 t) (iblk m c 6 t)) (iblk m c 9 t)) (k0_pay30 (k0_pay13 cv))
          (k0_pay31 (k0_pay12 cv) (k0_pay15 (iblk m c 2 t) (iblk m c 5 t)) (iblk m c 9 t)) s0⟩ :: L) (ix3 k n l)
      = (state (inputs m c) (bat t) (lane k l) n (first t + 256) : EReal) := by
  have H := at_chunk m c hI t cv hc
  refine tiles_left i3 i2 i1 i0 _ _ _ _ L (fun k n l => (state (inputs m c) (bat t) (lane k l) n (first t + 256) : EReal)) ?_ ?_ ?_ ?_ k n l
  · intro n l
    refine (state0_form _ _ s0 n l).trans (state_after H n (lane 0 l) _ ?_ _ (h0 n l))
    show 0 + n.val = (0 * 128 + l.val) / 256 * 128 + n.val
    omega
  · intro n l
    refine (state1_form _ _ _ s1 n l).trans (state_after H n (lane 1 l) _ ?_ _ (h1 n l))
    show 0 + n.val = (1 * 128 + l.val) / 256 * 128 + n.val
    omega
  · intro n l
    refine (state2_form _ _ _ s2 n l).trans (state_after H n (lane 2 l) _ ?_ _ (h2 n l))
    show 128 + n.val = (2 * 128 + l.val) / 256 * 128 + n.val
    omega
  · intro n l
    refine (state3_form _ _ _ s3 n l).trans (state_after H n (lane 3 l) _ ?_ _ (h3 n l))
    show 128 + n.val = (3 * 128 + l.val) / 256 * 128 + n.val
    omega

/-- The common form of a tile's gated sums is the mixer's, at a lane of the tile. -/
theorem gate_lane (k : Fin 4) (s : Vec Ideal S1x128x128 .f32) (hs : Holds m c t k s) (q : Vec Ideal S1x128 .f32)
    (hq : ∀ l, q (ix2 0 l) = (inputs m c).sk (hd (lane k l))) (p0 p1 : Fin 128) (e0 : p0.val = 2 * k.val) (e1 : p1.val = 2 * k.val + 1)
    (o : ℕ) (ho : o + 128 ≤ 256) (eo : o = k.val / 2 * 128) (off : ℕ) (hoff : off + 128 ≤ 512) (eoff : off = k.val * 128) (r : Fin 256) (l : Fin 128) :
    gateForm (k0_pay12 (F := Ideal) cv) (k0_pay13 (F := Ideal) cv) (k0_pay14 (F := Ideal) cv) (k0_pay17 (F := Ideal) (iblk m c 2 t) (iblk m c 5 t) (iblk m c 6 t))
      (k0_pay21 (F := Ideal) (k0_pay17 (iblk m c 2 t) (iblk m c 5 t) (iblk m c 6 t)) (iblk m c 9 t)) (k0_pay26 (F := Ideal) (iblk m c 0 t))
      (k0_pay24 (F := Ideal) (k0_pay12 cv) (k0_pay15 (iblk m c 2 t) (iblk m c 5 t)) (iblk m c 9 t)) p0 p1 o ho off hoff s q r l
      = gate (inputs m c) (bat t) (tok t r) (lane k l) := by
  have H := at_chunk m c hI t cv hc
  have hl := l.isLt
  have hk := k.isLt
  have ev : (lane k l).val = k.val * 128 + l.val := rfl
  refine gate_chunk H (first_le t) _ _ s q rfl p0 p1 o ho off hoff r l (lane k l) (by rw [ev, eoff]) ?_ ?_ ?_ (fun y => hs y l)
    _ (hq l) _ ?_ _ ?_
  · intro h; rw [ev, e0]; omega
  · intro h; rw [ev, e1]; omega
  · rw [ev, eo]; omega
  · have e : ∀ (v : Vec Ideal S1x256x512 .f32) (r : Fin 256) (j : Fin 512), k0_pay26 (F := Ideal) v (ix2 r j) = v (ix3 0 r j) := by
      intro v r j
      pointwise [k0_pay26]
    rw [e, blk0_at]
  · rw [lanes_at, act_at (inputs m c) (bat t) t cv hc]

/-- The stored result is the mixer's over the chunk. -/
theorem new_out (q0 q1 q2 q3 w0 w1 w2 w3 : Vec Ideal S1x128 .f32)
    (hq0 : ∀ l, q0 (ix2 0 l) = (inputs m c).sk (hd (lane 0 l))) (hq1 : ∀ l, q1 (ix2 0 l) = (inputs m c).sk (hd (lane 1 l)))
    (hq2 : ∀ l, q2 (ix2 0 l) = (inputs m c).sk (hd (lane 2 l))) (hq3 : ∀ l, q3 (ix2 0 l) = (inputs m c).sk (hd (lane 3 l)))
    (hw0 : ∀ l, w0 (ix2 0 l) = (inputs m c).nw (lane 0 l)) (hw1 : ∀ l, w1 (ix2 0 l) = (inputs m c).nw (lane 1 l))
    (hw2 : ∀ l, w2 (ix2 0 l) = (inputs m c).nw (lane 2 l)) (hw3 : ∀ l, w3 (ix2 0 l) = (inputs m c).nw (lane 3 l))
    (y0 y1 y2 y3 : FVec Ideal S256x128 .f32)
    (hy0 : y0 = k0_pay37 (F := Ideal) (k0_pay12 cv) (k0_pay21 (k0_pay17 (iblk m c 2 t) (iblk m c 5 t) (iblk m c 6 t)) (iblk m c 9 t)) k0_pay25 (k0_pay26 (iblk m c 0 t)) (k0_pay28 (k0_pay14 cv)) (k0_pay29 (k0_pay13 cv) (k0_pay14 cv))
      (k0_pay32 (k0_pay12 cv) (k0_pay15 (iblk m c 2 t) (iblk m c 5 t)) (iblk m c 9 t))
      (k0_pay33 (k0_pay12 cv) (k0_pay13 cv) (k0_pay14 cv) (k0_pay15 (iblk m c 2 t) (iblk m c 5 t)) k0_pay16 (k0_pay17 (iblk m c 2 t) (iblk m c 5 t) (iblk m c 6 t)) (k0_pay18 (iblk m c 2 t) (iblk m c 5 t) (iblk m c 6 t)) (iblk m c 9 t))
      (k0_pay34 k0_pay16 (k0_pay17 (iblk m c 2 t) (iblk m c 5 t) (iblk m c 6 t)) (k0_pay18 (iblk m c 2 t) (iblk m c 5 t) (iblk m c 6 t))) s0 q0)
    (hy1 : y1 = k0_pay45 (F := Ideal) (k0_pay26 (iblk m c 0 t)) (k0_pay43 (k0_pay12 cv) k0_pay16 (k0_pay17 (iblk m c 2 t) (iblk m c 5 t) (iblk m c 6 t)) (k0_pay18 (iblk m c 2 t) (iblk m c 5 t) (iblk m c 6 t))
      (k0_pay21 (k0_pay17 (iblk m c 2 t) (iblk m c 5 t) (iblk m c 6 t)) (iblk m c 9 t)) k0_pay25 (k0_pay28 (k0_pay14 cv)) (k0_pay29 (k0_pay13 cv) (k0_pay14 cv))
      (k0_pay39 (k0_pay24 (k0_pay12 cv) (k0_pay15 (iblk m c 2 t) (iblk m c 5 t)) (iblk m c 9 t))) (k0_pay40 (k0_pay18 (iblk m c 2 t) (iblk m c 5 t) (iblk m c 6 t))) (k0_pay41 (k0_pay17 (iblk m c 2 t) (iblk m c 5 t) (iblk m c 6 t))) s1 q1))
    (hy2 : y2 = k0_pay55 (F := Ideal) (k0_pay12 cv) (k0_pay21 (k0_pay17 (iblk m c 2 t) (iblk m c 5 t) (iblk m c 6 t)) (iblk m c 9 t)) (k0_pay26 (iblk m c 0 t)) (k0_pay47 (k0_pay14 cv))
      (k0_pay51 (k0_pay13 cv) (k0_pay14 cv) k0_pay16 (k0_pay17 (iblk m c 2 t) (iblk m c 5 t) (iblk m c 6 t)) (k0_pay18 (iblk m c 2 t) (iblk m c 5 t) (iblk m c 6 t)) (k0_pay24 (k0_pay12 cv) (k0_pay15 (iblk m c 2 t) (iblk m c 5 t)) (iblk m c 9 t)) k0_pay25)
      (k0_pay53 s2) (constant S256x128 .f32 0x00000000#32) q2)
    (hy3 : y3 = k0_pay63 (F := Ideal) (k0_pay12 cv) k0_pay16 (k0_pay21 (k0_pay17 (iblk m c 2 t) (iblk m c 5 t) (iblk m c 6 t)) (iblk m c 9 t)) k0_pay25 (k0_pay26 (iblk m c 0 t)) (k0_pay47 (k0_pay14 cv)) (k0_pay48 (k0_pay13 cv) (k0_pay14 cv))
      (k0_pay57 (k0_pay24 (k0_pay12 cv) (k0_pay15 (iblk m c 2 t) (iblk m c 5 t)) (iblk m c 9 t)))
      (k0_pay58 k0_pay16 (k0_pay17 (iblk m c 2 t) (iblk m c 5 t) (iblk m c 6 t)) (k0_pay18 (iblk m c 2 t) (iblk m c 5 t) (iblk m c 6 t)) (k0_pay24 (k0_pay12 cv) (k0_pay15 (iblk m c 2 t) (iblk m c 5 t)) (iblk m c 9 t)) (k0_pay48 (k0_pay13 cv) (k0_pay14 cv)))
      (k0_pay59 (k0_pay17 (iblk m c 2 t) (iblk m c 5 t) (iblk m c 6 t))) (k0_pay60 (k0_pay18 (iblk m c 2 t) (iblk m c 5 t) (iblk m c 6 t))) s3 q3)
    (i3 : ∀ a : Fin 3, (![0, 0, 384] : Fin 3 → ℕ) a + (![1, 256, 128] : Fin 3 → ℕ) a ≤ S1x256x512.size a)
    (i2 : ∀ a : Fin 3, (![0, 0, 256] : Fin 3 → ℕ) a + (![1, 256, 128] : Fin 3 → ℕ) a ≤ S1x256x512.size a)
    (i1 : ∀ a : Fin 3, (![0, 0, 128] : Fin 3 → ℕ) a + (![1, 256, 128] : Fin 3 → ℕ) a ≤ S1x256x512.size a)
    (i0 : ∀ a : Fin 3, (![0, 0, 0] : Fin 3 → ℕ) a + (![1, 256, 128] : Fin 3 → ℕ) a ≤ S1x256x512.size a)
    (L : List (View.Piece (Elt Ideal) S1x256x512 .bf16)) (r : Fin 256) (j : Fin 512) :
    View.canon ((⟨Rect.unit (s := S1x256x512) ![0, 0, 384] ![1, 256, 128] i3, k0_pay3 (F := Ideal) y3 (k0_pay67 y2 y3) w3⟩ : View.Piece (Elt Ideal) S1x256x512 .bf16)
      :: ⟨Rect.unit (s := S1x256x512) ![0, 0, 256] ![1, 256, 128] i2, k0_pay2 (F := Ideal) y2 (k0_pay67 y2 y3) w2⟩
      :: ⟨Rect.unit (s := S1x256x512) ![0, 0, 128] ![1, 256, 128] i1, k0_pay66 (F := Ideal) y0 y1 w1⟩
      :: ⟨Rect.unit (s := S1x256x512) ![0, 0, 0] ![1, 256, 128] i0, k0_pay65 (F := Ideal) y0 y1 w0⟩ :: L) (ix3 0 r j)
      = out (inputs m c) (bat t) (tok t r) j := by
  have g0 : ∀ r l, y0 (ix2 r l) = gate (inputs m c) (bat t) (tok t r) (lane 0 l) := fun r l => by
    rw [hy0]
    exact (gate0_form _ _ _ _ _ _ _ _ _ _ _ r l).trans (gate_lane m c hI t cv hc s0 s1 s2 s3 h0 h1 h2 h3 0 s0 h0 q0 hq0 0 1 rfl rfl _ _ rfl _ _ rfl r l)
  have g1 : ∀ r l, y1 (ix2 r l) = gate (inputs m c) (bat t) (tok t r) (lane 1 l) := fun r l => by
    rw [hy1]
    exact (gate1_form _ _ _ _ _ _ _ _ _ _ _ r l).trans (gate_lane m c hI t cv hc s0 s1 s2 s3 h0 h1 h2 h3 1 s1 h1 q1 hq1 2 3 rfl rfl _ _ rfl _ _ rfl r l)
  have g2 : ∀ r l, y2 (ix2 r l) = gate (inputs m c) (bat t) (tok t r) (lane 2 l) := fun r l => by
    rw [hy2]
    exact (gate2_form _ _ _ _ _ _ _ _ _ _ _ r l).trans (gate_lane m c hI t cv hc s0 s1 s2 s3 h0 h1 h2 h3 2 s2 h2 q2 hq2 4 5 rfl rfl _ _ rfl _ _ rfl r l)
  have g3 : ∀ r l, y3 (ix2 r l) = gate (inputs m c) (bat t) (tok t r) (lane 3 l) := fun r l => by
    rw [hy3]
    exact (gate3_form _ _ _ _ _ _ _ _ _ _ _ r l).trans (gate_lane m c hI t cv hc s0 s1 s2 s3 h0 h1 h2 h3 3 s3 h3 q3 hq3 6 7 rfl rfl _ _ rfl _ _ rfl r l)
  have low : ∀ (k k' : Fin 4) (l x : Fin 128) (e : k'.val = k.val / 2 * 2), lane k' x = ⟨(lane k l).val / 256 * 256 + x.val, by have := (lane k l).isLt; omega⟩ := by
    intro k k' l x e
    refine Fin.ext ?_
    show k'.val * 128 + x.val = (k.val * 128 + l.val) / 256 * 256 + x.val
    omega
  have high : ∀ (k k' : Fin 4) (l x : Fin 128) (e : k'.val = k.val / 2 * 2 + 1), lane k' x = ⟨(lane k l).val / 256 * 256 + 128 + x.val, by have := (lane k l).isLt; omega⟩ := by
    intro k k' l x e
    refine Fin.ext ?_
    show k'.val * 128 + x.val = (k.val * 128 + l.val) / 256 * 256 + 128 + x.val
    omega
  refine lanes_left i3 i2 i1 i0 _ _ _ _ L (fun r j => out (inputs m c) (bat t) (tok t r) j) ?_ ?_ ?_ ?_ r j
  · intro r l
    refine (norm0_form y0 y1 w0 r l).trans ?_
    rw [hw0, g0 r l]
    exact norm_pair _ _ _ (lane 0 l) (fun x => y0 (ix2 r x)) (fun x => y1 (ix2 r x)) (fun x => (g0 r x).trans (congrArg _ (low 0 0 l x rfl))) (fun x => (g1 r x).trans (congrArg _ (high 0 1 l x rfl)))
  · intro r l
    refine (norm1_form y0 y1 w1 r l).trans ?_
    rw [hw1, g1 r l]
    exact norm_pair _ _ _ (lane 1 l) (fun x => y0 (ix2 r x)) (fun x => y1 (ix2 r x)) (fun x => (g0 r x).trans (congrArg _ (low 1 0 l x rfl))) (fun x => (g1 r x).trans (congrArg _ (high 1 1 l x rfl)))
  · intro r l
    refine (norm2_form y2 y3 w2 r l).trans ?_
    rw [hw2, g2 r l]
    exact norm_pair _ _ _ (lane 2 l) (fun x => y2 (ix2 r x)) (fun x => y3 (ix2 r x)) (fun x => (g2 r x).trans (congrArg _ (low 2 2 l x rfl))) (fun x => (g3 r x).trans (congrArg _ (high 2 3 l x rfl)))
  · intro r l
    refine (norm3_form y2 y3 w3 r l).trans ?_
    rw [hw3, g3 r l]
    exact norm_pair _ _ _ (lane 3 l) (fun x => y2 (ix2 r x)) (fun x => y3 (ix2 r x)) (fun x => (g2 r x).trans (congrArg _ (low 3 2 l x rfl))) (fun x => (g3 r x).trans (congrArg _ (high 3 3 l x rfl)))

end

end Cert.KernelIdeal.Ssd
-- ==== Proof.Loads.lean ====
module

public import proofs.«01_k».proof.Proof.Stores

/-! What the launch's loads read: a row of the convolution's weights, a tile of lanes, a tile of the carried state, and the
    carried rows with the chunk's own behind them. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer

/-- A row of the weights. -/
theorem ld_row (v : Vec Ideal S4x1024 .f32) (k : ℕ) (hk : k < 4) (inb : ∀ a : Fin 2, (![k, 0] : Fin 2 → ℕ) a + (![1, 1024] : Fin 2 → ℕ) a ≤ S4x1024.size a)
    (ch : Fin 1024) : View.ld (Val := Elt Ideal) v (Rect.unit (s := S4x1024) ![k, 0] ![1, 1024] inb) (ix2 0 ch) = v (ix2 ⟨k, hk⟩ ch) := by
  refine congrArg v (funext fun a => Fin.ext ?_)
  match a with
  | ⟨0, _⟩ => rfl
  | ⟨1, _⟩ => show 0 + 1 * ch.val = ch.val; omega

/-- A tile of a row of lanes. -/
theorem ld_lanes (v : Vec Ideal S1x512 .f32) (off : ℕ) (hoff : off + 128 ≤ 512)
    (inb : ∀ a : Fin 2, (![0, off] : Fin 2 → ℕ) a + (![1, 128] : Fin 2 → ℕ) a ≤ S1x512.size a) (l : Fin 128) :
    View.ld (Val := Elt Ideal) v (Rect.unit (s := S1x512) ![0, off] ![1, 128] inb) (ix2 0 l) = v (ix2 0 ⟨off + l.val, by omega⟩) := by
  refine congrArg v (funext fun a => Fin.ext ?_)
  match a with
  | ⟨0, _⟩ => rfl
  | ⟨1, _⟩ => show off + 1 * l.val = off + l.val; omega

/-- A tile of the state. -/
theorem ld_tile (v : Vec Ideal S4x128x128 .f32) (k : ℕ) (hk : k < 4)
    (inb : ∀ a : Fin 3, (![k, 0, 0] : Fin 3 → ℕ) a + (![1, 128, 128] : Fin 3 → ℕ) a ≤ S4x128x128.size a) (n l : Fin 128) :
    View.ld (Val := Elt Ideal) v (Rect.unit (s := S4x128x128) ![k, 0, 0] ![1, 128, 128] inb) (ix3 0 n l) = v (ix3 ⟨k, hk⟩ n l) := by
  refine congrArg v (funext fun a => Fin.ext ?_)
  match a with
  | ⟨0, _⟩ => rfl
  | ⟨1, _⟩ => show 0 + 1 * n.val = n.val; omega
  | ⟨2, _⟩ => show 0 + 1 * l.val = l.val; omega

/-- A tile of the carried state, loaded from the scratch. -/
theorem state_tile (h : (Memref.whole cc0_scratch1).IsWhole) (S : Vec Ideal S4x128x128 .f32) (k : ℕ) (hk : k < 4)
    (inb : ∀ a : Fin 3, (![k, 0, 0] : Fin 3 → ℕ) a + (![1, 128, 128] : Fin 3 → ℕ) a ≤ S4x128x128.size a) (n l : Fin 128) :
    View.ld (Val := Elt Ideal) (View.read (Elt Ideal) (View.whole cc0_scratch1) (h.unread S)) (Rect.unit (s := S4x128x128) ![k, 0, 0] ![1, 128, 128] inb) (ix3 0 n l)
      = S (ix3 ⟨k, hk⟩ n l) := by
  rw [read_unread_whole]
  exact ld_tile S k hk inb n l

/-- Loading tile `k` past a store of another tile. -/
theorem skip_tile (L : List (View.Piece (Elt Ideal) S4x128x128 .f32)) (k k' : ℕ) (e : k ≠ k')
    (inb : ∀ a : Fin 3, (![k, 0, 0] : Fin 3 → ℕ) a + (![1, 128, 128] : Fin 3 → ℕ) a ≤ S4x128x128.size a)
    (inb' : ∀ a : Fin 3, (![k', 0, 0] : Fin 3 → ℕ) a + (![1, 128, 128] : Fin 3 → ℕ) a ≤ S4x128x128.size a) (w : Vec Ideal S1x128x128 .f32) (n l : Fin 128) :
    (View.whole cc0_scratch1).readCov ((⟨Rect.unit (s := S4x128x128) ![k', 0, 0] ![1, 128, 128] inb', w⟩ : View.Piece (Elt Ideal) S4x128x128 .f32) :: L)
      (Rect.unit (s := S4x128x128) ![k, 0, 0] ![1, 128, 128] inb).toLoadRect (ix3 0 n l)
      = (View.whole cc0_scratch1).readCov L (Rect.unit (s := S4x128x128) ![k, 0, 0] ![1, 128, 128] inb).toLoadRect (ix3 0 n l) := by
  rw [View.readCov_eq_canon', View.readCov_eq_canon']
  refine left_off (s := S4x128x128) inb' w L _ 0 ?_
  show k + 1 * 0 < k' ∨ k' + 1 ≤ k + 1 * 0
  omega

/-- Loading tile `k` of a state stored whole. -/
theorem fresh_tile (L : List (View.Piece (Elt Ideal) S4x128x128 .f32)) (k : ℕ) (hk : k < 4)
    (inb : ∀ a : Fin 3, (![k, 0, 0] : Fin 3 → ℕ) a + (![1, 128, 128] : Fin 3 → ℕ) a ≤ S4x128x128.size a)
    (inb' : ∀ a : Fin 3, (![0, 0, 0] : Fin 3 → ℕ) a + (![4, 128, 128] : Fin 3 → ℕ) a ≤ S4x128x128.size a) (w : Vec Ideal S4x128x128 .f32) (n l : Fin 128) :
    (View.whole cc0_scratch1).readCov ((⟨Rect.unit (s := S4x128x128) ![0, 0, 0] ![4, 128, 128] inb', w⟩ : View.Piece (Elt Ideal) S4x128x128 .f32) :: L)
      (Rect.unit (s := S4x128x128) ![k, 0, 0] ![1, 128, 128] inb).toLoadRect (ix3 0 n l) = w (ix3 ⟨k, hk⟩ n l) := by
  rw [View.readCov_eq_canon']
  refine left_under (s := S4x128x128) inb' w L _ (ix3 ⟨k, hk⟩ n l) fun a => ?_
  match a with
  | ⟨0, _⟩ => show k + 1 * 0 = 0 + k; omega
  | ⟨1, _⟩ => show 0 + 1 * n.val = 0 + n.val; omega
  | ⟨2, _⟩ => show 0 + 1 * l.val = 0 + l.val; omega

variable (m : (ℓ : Loc nD τ sig) → Buf (Elt Ideal) ℓ)

/-- The chunk's rows as stored behind the carried ones. -/
theorem chunk_rows (c : Dev nD) (t : Fin cfg0.N) (r : Fin 256) (ch : Fin 1024) : k0_pay7 (F := Ideal) (iblk m c 1 t) (ix2 r ch) = (inputs m c).u (bat t) (tok t r) ch := by
  have e : ∀ (v : Vec Ideal S1x256x1024 .f32) (r : Fin 256) (ch : Fin 1024), k0_pay7 (F := Ideal) v (ix2 r ch) = v (ix3 0 r ch) := by
    intro v r ch
    pointwise [k0_pay7, k0_pay6]
  rw [e, blk1_at]

/-- The chunk's last eight rows, carried to the next point. -/
theorem last_rows (c : Dev nD) (t : Fin cfg0.N) (r : Fin 8) (ch : Fin 1024) :
    k0_pay10 (F := Ideal) (k0_pay9 (iblk m c 1 t)) (ix2 r ch) = (inputs m c).u (bat t) (tok t ⟨248 + r.val, by omega⟩) ch := by
  have e : ∀ (v : Vec Ideal S1x256x1024 .f32) (r : Fin 8) (ch : Fin 1024), k0_pay10 (F := Ideal) (k0_pay9 v) (ix2 r ch) = v (ix3 0 ⟨248 + r.val, by omega⟩ ch) := by
    intro v r ch
    pointwise [k0_pay10, k0_pay9, k0_pay6]
  rw [e, blk1_at]

/-- Later in a sequence: the rows `d` before the chunk's, of the carried rows with the chunk's behind them. -/
theorem rows_carried (c : Dev nD) (t : Fin cfg0.N) (h : (Memref.whole cc0_scratch0).IsWhole) (E : Vec Ideal S264x1024 .f32)
    (inb : ∀ a : Fin 2, (![8, 0] : Fin 2 → ℕ) a + (![256, 1024] : Fin 2 → ℕ) a ≤ S264x1024.size a) (o d : ℕ) (hd : d ≤ 8) (e : o + d = 8)
    (inb' : ∀ a : Fin 2, (![o, 0] : Fin 2 → ℕ) a + (![256, 1024] : Fin 2 → ℕ) a ≤ S264x1024.size a) (r : Fin 256) (ch : Fin 1024) :
    View.ld (Val := Elt Ideal) (View.read (Elt Ideal) (View.whole cc0_scratch0) ((View.whole cc0_scratch0).writes (Elt Ideal) (h.unread E)
      [⟨Rect.unit (s := S264x1024) ![8, 0] ![256, 1024] inb, k0_pay7 (F := Ideal) (iblk m c 1 t)⟩])) (Rect.unit (s := S264x1024) ![o, 0] ![256, 1024] inb') (ix2 r ch)
      = shifted (inputs m c) t (fun r ch => E (ix2 (⟨r.val, by omega⟩ : Fin 264) ch)) d hd r ch := by
  have ey : (Rect.unit (s := S264x1024) ![o, 0] ![256, 1024] inb').toLoadRect.idx (ix2 r ch) = ix2 (⟨o + r.val, by omega⟩ : Fin 264) ch := by
    funext a
    refine Fin.ext ?_
    match a with
    | ⟨0, _⟩ => show o + 1 * r.val = o + r.val; omega
    | ⟨1, _⟩ => show 0 + 1 * ch.val = ch.val; omega
  refine (congrArg (View.read (Elt Ideal) (View.whole cc0_scratch0) ((View.whole cc0_scratch0).writes (Elt Ideal) (h.unread E)
      [⟨Rect.unit (s := S264x1024) ![8, 0] ![256, 1024] inb, k0_pay7 (F := Ideal) (iblk m c 1 t)⟩])) ey).trans ?_
  unfold shifted
  by_cases hr : d ≤ r.val
  · rw [dif_pos hr, ← chunk_rows m c t ⟨r.val - d, by omega⟩ ch]
    refine View.read_writes_cons_rows_of_mem (View.whole cc0_scratch0) (h.unread E) inb (k0_pay7 (F := Ideal) (iblk m c 1 t)) [] _ (ix2 ⟨r.val - d, by omega⟩ ch) rfl ?_ rfl
    show o + r.val = 8 + (r.val - d)
    omega
  · rw [dif_neg hr]
    refine (View.read_writes_cons_rows_of_not_mem (View.whole cc0_scratch0) (h.unread E) inb (k0_pay7 (F := Ideal) (iblk m c 1 t)) [] _ rfl rfl (Or.inl ?_)).trans ?_
    · show o + r.val < 8
      omega
    · rw [View.writes_nil, read_unread_whole]
      refine congrArg E (congrArg (fun q => ix2 q ch) (Fin.ext ?_))
      show o + r.val = 8 - d + r.val
      omega

/-- At a sequence's first chunk: the same of rows stored fresh. -/
theorem rows_fresh (c : Dev nD) (t : Fin cfg0.N) (w : Vec Ideal S8x1024 .f32)
    (inb : ∀ a : Fin 2, (![8, 0] : Fin 2 → ℕ) a + (![256, 1024] : Fin 2 → ℕ) a ≤ S264x1024.size a)
    (i0 : ∀ a : Fin 2, (![0, 0] : Fin 2 → ℕ) a + (![8, 1024] : Fin 2 → ℕ) a ≤ S264x1024.size a) (o d : ℕ) (hd : d ≤ 8) (e : o + d = 8)
    (inb' : ∀ a : Fin 2, (![o, 0] : Fin 2 → ℕ) a + (![256, 1024] : Fin 2 → ℕ) a ≤ S264x1024.size a) (r : Fin 256) (ch : Fin 1024) :
    (View.whole cc0_scratch0).readCov ((⟨Rect.unit (s := S264x1024) ![8, 0] ![256, 1024] inb, k0_pay7 (F := Ideal) (iblk m c 1 t)⟩ : View.Piece (Elt Ideal) S264x1024 .f32)
      :: [⟨Rect.unit (s := S264x1024) ![0, 0] ![8, 1024] i0, w⟩]) (Rect.unit (s := S264x1024) ![o, 0] ![256, 1024] inb').toLoadRect (ix2 r ch)
      = shifted (inputs m c) t (fun r ch => w (ix2 r ch)) d hd r ch := by
  have ey : (Rect.unit (s := S264x1024) ![o, 0] ![256, 1024] inb').toLoadRect.idx (ix2 r ch) = ix2 (⟨o + r.val, by omega⟩ : Fin 264) ch := by
    funext a
    refine Fin.ext ?_
    match a with
    | ⟨0, _⟩ => show o + 1 * r.val = o + r.val; omega
    | ⟨1, _⟩ => show 0 + 1 * ch.val = ch.val; omega
  rw [View.readCov_eq_canon']
  beta_reduce
  rw [ey]
  unfold shifted
  by_cases hr : d ≤ r.val
  · rw [dif_pos hr, ← chunk_rows m c t ⟨r.val - d, by omega⟩ ch]
    generalize k0_pay7 (F := Ideal) (iblk m c 1 t) = z
    have hx : ∀ a : Fin 2, ((ix2 (⟨o + r.val, by omega⟩ : Fin 264) ch : S264x1024.Idx) a).val
        = (![8, 0] : Fin 2 → ℕ) a + ((ix2 (⟨r.val - d, by omega⟩ : Fin 256) ch : S256x1024.Idx) a).val := by
      refine Fin.forall_fin_two.mpr ⟨?_, ?_⟩
      · show o + r.val = 8 + (r.val - d)
        omega
      · show ch.val = 0 + ch.val
        omega
    exact left_under (s := S264x1024) inb z [⟨Rect.unit (s := S264x1024) ![0, 0] ![8, 1024] i0, w⟩] (ix2 (⟨o + r.val, by omega⟩ : Fin 264) ch) (ix2 (⟨r.val - d, by omega⟩ : Fin 256) ch) hx
  · rw [dif_neg hr]
    generalize k0_pay7 (F := Ideal) (iblk m c 1 t) = z
    have hx : ∀ a : Fin 2, ((ix2 (⟨o + r.val, by omega⟩ : Fin 264) ch : S264x1024.Idx) a).val
        = (![0, 0] : Fin 2 → ℕ) a + ((ix2 (⟨8 - d + r.val, by omega⟩ : Fin 8) ch : S8x1024.Idx) a).val := by
      refine Fin.forall_fin_two.mpr ⟨?_, ?_⟩
      · show o + r.val = 0 + (8 - d + r.val)
        omega
      · show ch.val = 0 + ch.val
        omega
    have hy : ((ix2 (⟨o + r.val, by omega⟩ : Fin 264) ch : S264x1024.Idx) 0).val < 8 := by
      show o + r.val < 8
      omega
    exact (left_off (s := S264x1024) inb z [⟨Rect.unit (s := S264x1024) ![0, 0] ![8, 1024] i0, w⟩] (ix2 (⟨o + r.val, by omega⟩ : Fin 264) ch) 0 (Or.inl hy)).trans
      (left_under (s := S264x1024) i0 w [] (ix2 (⟨o + r.val, by omega⟩ : Fin 264) ch) (ix2 (⟨8 - d + r.val, by omega⟩ : Fin 8) ch) hx)

end Cert.KernelIdeal.Ssd
-- ==== Proof.Run.lean ====
module

public import proofs.«01_k».proof.Proof.Point
public import proofs.«01_k».proof.Proof.Loads

/-! The launch's grid points in order: the carried rows are the last of the chunk before, the carried state is the mixer's
    before the chunk, and each point stores the mixer's result over its chunk. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Mixer

variable (m : (ℓ : Loc nD τ sig) → Buf (Elt Ideal) ℓ)

/-- What a point leaves for the next of its sequence. -/
structure Left (c : Dev nD) (t : Fin cfg0.N) : Prop where
  rows : ∀ (r : Fin 8) (ch : Fin 1024), ((outsAt0 m c t.val t.isLt).2.1 (ix2 (⟨r.val, by omega⟩ : Fin 264) ch) : EReal)
    = (inputs m c).u (bat t) (tok t ⟨248 + r.val, by omega⟩) ch
  state : ∀ (k : Fin 4) (n l : Fin 128), ((outsAt0 m c t.val t.isLt).2.2 (ix3 k n l) : EReal) = (state (inputs m c) (bat t) (lane k l) n (first t + 256) : EReal)

/-- The rows that a point leaves, at the first chunk. -/
theorem rows_first (c : Dev nD) (t : Fin cfg0.N) (h : t.val % 32 = 0) (r : Fin 8) (ch : Fin 1024) :
    ((outsAt0 m c t.val t.isLt).2.1 (ix2 (⟨r.val, by omega⟩ : Fin 264) ch) : EReal) = (inputs m c).u (bat t) (tok t ⟨248 + r.val, by omega⟩) ch := by
  rw [outsAt0_A m c t h]
  frame_out
  exact (rows_left _ _ _ r ch).trans (last_rows m c t r ch)

/-- The rows that a point leaves, later in a sequence. -/
theorem rows_later (c : Dev nD) (t : Fin cfg0.N) (h : ¬ t.val % 32 = 0) (r : Fin 8) (ch : Fin 1024) :
    ((outsAt0 m c t.val t.isLt).2.1 (ix2 (⟨r.val, by omega⟩ : Fin 264) ch) : EReal) = (inputs m c).u (bat t) (tok t ⟨248 + r.val, by omega⟩) ch := by
  rw [outsAt0_B m c t h]
  frame_out
  exact (rows_left _ _ _ r ch).trans (last_rows m c t r ch)

/-- At a sequence's first chunk no token stands before the chunk. -/
theorem none_before (c : Dev nD) (t : Fin cfg0.N) (h : t.val % 32 = 0) (r : Fin 8) (ch : Fin 1024) :
    k0_pay4 (F := Ideal) (ix2 r ch) = prev (inputs m c) (8 - r.val) (bat t) (tok t 0) ch := by
  have e : k0_pay4 (F := Ideal) (ix2 r ch) = 0 := by pointwise [k0_pay4]
  have h0 : (tok t 0).val = 0 := by show t.val % 32 * 256 + 0 = 0; rw [h]
  rw [e]
  unfold prev
  rw [if_neg (by rw [h0]; omega)]

/-- No state stands before the first chunk. -/
theorem fresh_state (c : Dev nD) (t : Fin cfg0.N) (h : t.val % 32 = 0) (k : Fin 4) (n l : Fin 128) :
    k0_pay5 (F := Ideal) (ix3 k n l) = (state (inputs m c) (bat t) (lane k l) n (first t) : EReal) := by
  have e : k0_pay5 (F := Ideal) (ix3 k n l) = 0 := by pointwise [k0_pay5]
  have h0 : first t = 0 := by unfold first; rw [h]
  rw [e, h0]
  unfold state
  simp

/-- The point before, of the same sequence. -/
def before (t : Fin cfg0.N) : Fin cfg0.N := ⟨t.val - 1, Nat.lt_of_le_of_lt (Nat.sub_le _ _) t.isLt⟩

theorem bat_before (t : Fin cfg0.N) (h : ¬ t.val % 32 = 0) : bat (before t) = bat t := Fin.ext (by show (t.val - 1) / 32 = t.val / 32; omega)

theorem first_before (t : Fin cfg0.N) (h : ¬ t.val % 32 = 0) : first (before t) + 256 = first t := by
  show (t.val - 1) % 32 * 256 + 256 = t.val % 32 * 256
  omega

/-- The carried rows are the tokens before the chunk. -/
theorem carried_rows (c : Dev nD) (t : Fin cfg0.N) (h : ¬ t.val % 32 = 0) (H : Left m c (before t)) (r : Fin 8) (ch : Fin 1024) :
    ((outsAt0 m c (before t).val (before t).isLt).2.1 (ix2 (⟨r.val, by omega⟩ : Fin 264) ch) : EReal) = prev (inputs m c) (8 - r.val) (bat t) (tok t 0) ch := by
  have hf := first_before t h
  have h0 : (tok t 0).val = first t := rfl
  rw [H.rows, bat_before t h]
  unfold prev
  rw [if_pos (by rw [h0]; omega)]
  refine congrArg (fun q => (inputs m c).u (bat t) q ch) (Fin.ext ?_)
  show first (before t) + (248 + r.val) = first t + 0 - (8 - r.val)
  omega

/-- The carried state is the mixer's before the chunk. -/
theorem carried_state (c : Dev nD) (t : Fin cfg0.N) (h : ¬ t.val % 32 = 0) (H : Left m c (before t)) (k : Fin 4) (n l : Fin 128) :
    ((outsAt0 m c (before t).val (before t).isLt).2.2 (ix3 k n l) : EReal) = (state (inputs m c) (bat t) (lane k l) n (first t) : EReal) := by
  rw [H.state, bat_before t h, first_before t h]

theorem state_later (c : Dev nD) (hI : (inputs m c).Finite) (t : Fin cfg0.N) (h : ¬ t.val % 32 = 0) (H : Left m c (before t)) (k : Fin 4) (n l : Fin 128) :
    ((outsAt0 m c t.val t.isLt).2.2 (ix3 k n l) : EReal) = (state (inputs m c) (bat t) (lane k l) n (first t + 256) : EReal) := by
  have hr := carried_rows m c t h H
  have hs := carried_state m c t h H
  rw [outsAt0_B m c t h]
  frame_out
  generalize hv : k0_pay8 (F := Ideal) _ _ _ _ _ _ _ _ _ = cv
  have hc : ∀ r ch, cv (ix2 r ch) = conv (inputs m c) (bat t) (tok t r) ch := by
    rw [← hv]
    exact conv_at m c t _ _ _ _ _ _ _ (fun ch => (ld_row _ 3 (by omega) _ ch).trans (blk3_at m c t 3 ch)) (fun ch => (ld_row _ 2 (by omega) _ ch).trans (blk3_at m c t 2 ch))
      (fun ch => (ld_row _ 1 (by omega) _ ch).trans (blk3_at m c t 1 ch)) (fun ch => (ld_row _ 0 (by omega) _ ch).trans (blk3_at m c t 0 ch))
      (fun r ch => (rows_carried m c t _ _ _ 7 1 (by omega) rfl _ r ch).trans (shifted_eq _ t _ hr 1 _ r ch))
      (fun r ch => (rows_carried m c t _ _ _ 6 2 (by omega) rfl _ r ch).trans (shifted_eq _ t _ hr 2 _ r ch))
      (fun r ch => (rows_carried m c t _ _ _ 5 3 (by omega) rfl _ r ch).trans (shifted_eq _ t _ hr 3 _ r ch))
  exact new_state m c hI t cv hc _ _ _ _ (fun n l => (state_tile _ _ 0 (by omega) _ n l).trans (hs 0 n l)) (fun n l => (state_tile _ _ 1 (by omega) _ n l).trans (hs 1 n l))
    (fun n l => (state_tile _ _ 2 (by omega) _ n l).trans (hs 2 n l)) (fun n l => (state_tile _ _ 3 (by omega) _ n l).trans (hs 3 n l)) _ _ _ _ _ k n l

theorem out_later (c : Dev nD) (hI : (inputs m c).Finite) (t : Fin cfg0.N) (h : ¬ t.val % 32 = 0) (H : Left m c (before t)) (r : Fin 256) (j : Fin 512) :
    ((outsAt0 m c t.val t.isLt).1 (ix3 0 r j) : EReal) = out (inputs m c) (bat t) (tok t r) j := by
  have hr := carried_rows m c t h H
  have hs := carried_state m c t h H
  rw [outsAt0_B m c t h]
  frame_out
  generalize hv : k0_pay8 (F := Ideal) _ _ _ _ _ _ _ _ _ = cv
  have hc : ∀ r ch, cv (ix2 r ch) = conv (inputs m c) (bat t) (tok t r) ch := by
    rw [← hv]
    exact conv_at m c t _ _ _ _ _ _ _ (fun ch => (ld_row _ 3 (by omega) _ ch).trans (blk3_at m c t 3 ch)) (fun ch => (ld_row _ 2 (by omega) _ ch).trans (blk3_at m c t 2 ch))
      (fun ch => (ld_row _ 1 (by omega) _ ch).trans (blk3_at m c t 1 ch)) (fun ch => (ld_row _ 0 (by omega) _ ch).trans (blk3_at m c t 0 ch))
      (fun r ch => (rows_carried m c t _ _ _ 7 1 (by omega) rfl _ r ch).trans (shifted_eq _ t _ hr 1 _ r ch))
      (fun r ch => (rows_carried m c t _ _ _ 6 2 (by omega) rfl _ r ch).trans (shifted_eq _ t _ hr 2 _ r ch))
      (fun r ch => (rows_carried m c t _ _ _ 5 3 (by omega) rfl _ r ch).trans (shifted_eq _ t _ hr 3 _ r ch))
  exact new_out m c hI t cv hc _ _ _ _ (fun n l => (state_tile _ _ 0 (by omega) _ n l).trans (hs 0 n l)) (fun n l => (state_tile _ _ 1 (by omega) _ n l).trans (hs 1 n l))
    (fun n l => (state_tile _ _ 2 (by omega) _ n l).trans (hs 2 n l)) (fun n l => (state_tile _ _ 3 (by omega) _ n l).trans (hs 3 n l)) _ _ _ _ _ _ _ _
    (fun l => (ld_lanes _ 0 (by omega) _ l).trans (blk7_at m c t _)) (fun l => (ld_lanes _ 128 (by omega) _ l).trans (blk7_at m c t _))
    (fun l => (ld_lanes _ 256 (by omega) _ l).trans (blk7_at m c t _)) (fun l => (ld_lanes _ 384 (by omega) _ l).trans (blk7_at m c t _))
    (fun l => (ld_lanes _ 0 (by omega) _ l).trans (blk8_at m c t _)) (fun l => (ld_lanes _ 128 (by omega) _ l).trans (blk8_at m c t _))
    (fun l => (ld_lanes _ 256 (by omega) _ l).trans (blk8_at m c t _)) (fun l => (ld_lanes _ 384 (by omega) _ l).trans (blk8_at m c t _))
    _ _ _ _ rfl rfl rfl rfl _ _ _ _ _ r j

theorem state_first (c : Dev nD) (hI : (inputs m c).Finite) (t : Fin cfg0.N) (h : t.val % 32 = 0) (k : Fin 4) (n l : Fin 128) :
    ((outsAt0 m c t.val t.isLt).2.2 (ix3 k n l) : EReal) = (state (inputs m c) (bat t) (lane k l) n (first t + 256) : EReal) := by
  have hr := none_before m c t h
  have hs := fresh_state m c t h
  rw [outsAt0_A m c t h]
  frame_out
  generalize hv : k0_pay8 (F := Ideal) _ _ _ _ _ _ _ _ _ = cv
  have hc : ∀ r ch, cv (ix2 r ch) = conv (inputs m c) (bat t) (tok t r) ch := by
    rw [← hv]
    exact conv_at m c t _ _ _ _ _ _ _ (fun ch => (ld_row _ 3 (by omega) _ ch).trans (blk3_at m c t 3 ch)) (fun ch => (ld_row _ 2 (by omega) _ ch).trans (blk3_at m c t 2 ch))
      (fun ch => (ld_row _ 1 (by omega) _ ch).trans (blk3_at m c t 1 ch)) (fun ch => (ld_row _ 0 (by omega) _ ch).trans (blk3_at m c t 0 ch))
      (fun r ch => (rows_fresh m c t _ _ _ 7 1 (by omega) rfl _ r ch).trans (shifted_eq _ t _ hr 1 _ r ch))
      (fun r ch => (rows_fresh m c t _ _ _ 6 2 (by omega) rfl _ r ch).trans (shifted_eq _ t _ hr 2 _ r ch))
      (fun r ch => (rows_fresh m c t _ _ _ 5 3 (by omega) rfl _ r ch).trans (shifted_eq _ t _ hr 3 _ r ch))
  exact new_state m c hI t cv hc _ _ _ _ (fun n l => (fresh_tile _ 0 (by omega) _ _ _ n l).trans (hs 0 n l))
    (fun n l => (skip_tile _ 1 0 (by omega) _ _ _ n l).trans ((fresh_tile _ 1 (by omega) _ _ _ n l).trans (hs 1 n l)))
    (fun n l => (skip_tile _ 2 1 (by omega) _ _ _ n l).trans ((skip_tile _ 2 0 (by omega) _ _ _ n l).trans ((fresh_tile _ 2 (by omega) _ _ _ n l).trans (hs 2 n l))))
    (fun n l => (skip_tile _ 3 2 (by omega) _ _ _ n l).trans ((skip_tile _ 3 1 (by omega) _ _ _ n l).trans ((skip_tile _ 3 0 (by omega) _ _ _ n l).trans
      ((fresh_tile _ 3 (by omega) _ _ _ n l).trans (hs 3 n l))))) _ _ _ _ _ k n l

theorem out_first (c : Dev nD) (hI : (inputs m c).Finite) (t : Fin cfg0.N) (h : t.val % 32 = 0) (r : Fin 256) (j : Fin 512) :
    ((outsAt0 m c t.val t.isLt).1 (ix3 0 r j) : EReal) = out (inputs m c) (bat t) (tok t r) j := by
  have hr := none_before m c t h
  have hs := fresh_state m c t h
  rw [outsAt0_A m c t h]
  frame_out
  generalize hv : k0_pay8 (F := Ideal) _ _ _ _ _ _ _ _ _ = cv
  have hc : ∀ r ch, cv (ix2 r ch) = conv (inputs m c) (bat t) (tok t r) ch := by
    rw [← hv]
    exact conv_at m c t _ _ _ _ _ _ _ (fun ch => (ld_row _ 3 (by omega) _ ch).trans (blk3_at m c t 3 ch)) (fun ch => (ld_row _ 2 (by omega) _ ch).trans (blk3_at m c t 2 ch))
      (fun ch => (ld_row _ 1 (by omega) _ ch).trans (blk3_at m c t 1 ch)) (fun ch => (ld_row _ 0 (by omega) _ ch).trans (blk3_at m c t 0 ch))
      (fun r ch => (rows_fresh m c t _ _ _ 7 1 (by omega) rfl _ r ch).trans (shifted_eq _ t _ hr 1 _ r ch))
      (fun r ch => (rows_fresh m c t _ _ _ 6 2 (by omega) rfl _ r ch).trans (shifted_eq _ t _ hr 2 _ r ch))
      (fun r ch => (rows_fresh m c t _ _ _ 5 3 (by omega) rfl _ r ch).trans (shifted_eq _ t _ hr 3 _ r ch))
  exact new_out m c hI t cv hc _ _ _ _ (fun n l => (fresh_tile _ 0 (by omega) _ _ _ n l).trans (hs 0 n l))
    (fun n l => (skip_tile _ 1 0 (by omega) _ _ _ n l).trans ((fresh_tile _ 1 (by omega) _ _ _ n l).trans (hs 1 n l)))
    (fun n l => (skip_tile _ 2 1 (by omega) _ _ _ n l).trans ((skip_tile _ 2 0 (by omega) _ _ _ n l).trans ((fresh_tile _ 2 (by omega) _ _ _ n l).trans (hs 2 n l))))
    (fun n l => (skip_tile _ 3 2 (by omega) _ _ _ n l).trans ((skip_tile _ 3 1 (by omega) _ _ _ n l).trans ((skip_tile _ 3 0 (by omega) _ _ _ n l).trans
      ((fresh_tile _ 3 (by omega) _ _ _ n l).trans (hs 3 n l))))) _ _ _ _ _ _ _ _
    (fun l => (ld_lanes _ 0 (by omega) _ l).trans (blk7_at m c t _)) (fun l => (ld_lanes _ 128 (by omega) _ l).trans (blk7_at m c t _))
    (fun l => (ld_lanes _ 256 (by omega) _ l).trans (blk7_at m c t _)) (fun l => (ld_lanes _ 384 (by omega) _ l).trans (blk7_at m c t _))
    (fun l => (ld_lanes _ 0 (by omega) _ l).trans (blk8_at m c t _)) (fun l => (ld_lanes _ 128 (by omega) _ l).trans (blk8_at m c t _))
    (fun l => (ld_lanes _ 256 (by omega) _ l).trans (blk8_at m c t _)) (fun l => (ld_lanes _ 384 (by omega) _ l).trans (blk8_at m c t _))
    _ _ _ _ rfl rfl rfl rfl _ _ _ _ _ r j

/-- Every point leaves the next what it needs. -/
theorem left_at (c : Dev nD) (hI : (inputs m c).Finite) : ∀ (n : ℕ) (hn : n < cfg0.N), Left m c ⟨n, hn⟩
  | 0, hn => ⟨rows_first m c ⟨0, hn⟩ rfl, state_first m c hI ⟨0, hn⟩ rfl⟩
  | n + 1, hn => by
    by_cases h : (n + 1) % 32 = 0
    · exact ⟨rows_first m c ⟨n + 1, hn⟩ h, state_first m c hI ⟨n + 1, hn⟩ h⟩
    · exact ⟨rows_later m c ⟨n + 1, hn⟩ h, state_later m c hI ⟨n + 1, hn⟩ h (left_at c hI n (Nat.lt_of_succ_lt hn))⟩

/-- Every point stores the mixer's result over its chunk. -/
theorem out_at (c : Dev nD) (hI : (inputs m c).Finite) (t : Fin cfg0.N) (r : Fin 256) (j : Fin 512) :
    ((outsAt0 m c t.val t.isLt).1 (ix3 0 r j) : EReal) = out (inputs m c) (bat t) (tok t r) j := by
  by_cases h : t.val % 32 = 0
  · exact out_first m c hI t h r j
  · exact out_later m c hI t h (left_at m c hI _ (before t).isLt) r j

end Cert.KernelIdeal.Ssd
-- ==== Proof.Final.lean ====
module

public import proofs.«01_k».proof.Proof.Gen.KernelIdeal.Value
public import proofs.«01_k».proof.Proof.Run

/-! The launch's result array is the mixer's result. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.KernelIdeal.Value Cert.Mixer

variable (m : (ℓ : Loc nD τ sig) → Buf (Elt Ideal) ℓ)

theorem array_at (c : Dev nD) (hI : (inputs m c).Finite) (i : Fin 2) (t : Fin 8192) (j : Fin 512) :
    (G10 m c (ix3 i t j) : EReal) = out (inputs m c) i t j := by
  have hN : cfg0.N = 64 := N_0
  have ep : pt10Of (ix3 i t j) = 32 * i.val + t.val / 256 := by
    show 32 * (i.val / 1 - 0) + 1 * (t.val / 256 - 0) + 1 * (j.val / 512 - 0) = 32 * i.val + t.val / 256
    omega
  have hp : pt10Of (ix3 i t j) < cfg0.N := by
    rw [ep, hN]
    omega
  have el : loc10Of (ix3 i t j) = ix3 0 ⟨t.val % 256, Nat.mod_lt _ (by decide)⟩ j := by
    funext a
    refine Fin.ext ?_
    match a with
    | ⟨0, _⟩ => show i.val % 1 = 0; omega
    | ⟨1, _⟩ => rfl
    | ⟨2, _⟩ => show j.val % 512 = j.val; omega
  have e := out_at m c hI ⟨pt10Of (ix3 i t j), hp⟩ ⟨t.val % 256, Nat.mod_lt _ (by decide)⟩ j
  rw [outsAt0_sweep] at e
  unfold G10
  rw [dif_pos hp, el]
  refine e.trans ?_
  have eb : bat ⟨pt10Of (ix3 i t j), hp⟩ = i := Fin.ext (by
    show pt10Of (ix3 i t j) / 32 = i.val
    rw [ep]
    omega)
  have et : tok ⟨pt10Of (ix3 i t j), hp⟩ ⟨t.val % 256, Nat.mod_lt _ (by decide)⟩ = t := Fin.ext (by
    show pt10Of (ix3 i t j) % 32 * 256 + t.val % 256 = t.val
    rw [ep]
    omega)
  rw [eb, et]

end Cert.KernelIdeal.Ssd
-- ==== Proof.Finite.lean ====
module

public import proofs.«01_k».proof.Defs
public import proofs.«01_k».proof.Proof.Gen.Pre_finite
public import proofs.«01_k».proof.Proof.Operands
public import Idealize.ShloMosaic.Lib.ReduceAll
public import Idealize.ShloMosaic.Lib.Pointwise

/-! The precondition, read: the inputs of the recurrence are real numbers. -/

@[expose] public section

set_option maxRecDepth 16384

noncomputable section

namespace Cert.Pre_finite.Read

open Idealize.ShloMosaic Idealize.ShloMosaic.TcCoe Idealize.SL.Sem
open Cert.Pre_finite Cert.Pre_finite.Gen Cert.Mixer

theorem top_word : Ideal.ofBits .f32 0x7F800000#32 = ⊤ := by
  show Ideal.ieee 8 23 0x7F800000#32 = ⊤
  unfold Ideal.ieee
  dsimp only
  rw [if_pos (by decide), if_pos (by decide), if_neg (by decide)]

/-- A number whose magnitude is below infinity is real. -/
theorem real_of_small (x : EReal) (h : max x (-x) < ⊤) : Real? x := by
  induction x with
  | bot => exact absurd h (by simp)
  | coe r => exact ⟨r, rfl⟩
  | top => exact absurd h (by simp)

/-- An element whose comparison with infinity is true is real. -/
theorem real_of_one {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : Real? (x i) := by
  refine real_of_small (x i) ?_
  have h : BitVec.ofBool (decide (max (x i) (-(x i)) < Ideal.ofBits .f32 0x7F800000#32)) = 1#1 := e
  rw [top_word] at h
  by_contra hn
  rw [decide_eq_false hn] at h
  exact absurd h (by decide)

instance : Subsingleton S_.Idx := ⟨fun _ _ => funext fun a => a.elim0⟩

section
variable (z : FVec Ideal S2x8192x512 .f32) (u : FVec Ideal S2x8192x1024 .f32) (d : FVec Ideal S2x8192x128 .f32) (w : FVec Ideal S4x1024 .f32)
variable (cb : FVec Ideal S1024 .f32) (db al sk : FVec Ideal S8 .f32) (nw : FVec Ideal S512 .f32)

/-- The precondition's six conjuncts at their elements. -/
theorem all_real (h : fn (F := Ideal) z u d w cb db al sk nw = fun _ => 1#1) :
    (∀ i, Real? (u i)) ∧ (∀ i, Real? (extractStridedSlice S2x8192x8 ![0, 0, 0] d slices_S2x8192x128_S2x8192x8_0_0_0 i)) ∧ (∀ i, Real? (w i))
      ∧ (∀ i, Real? (cb i)) ∧ (∀ i, Real? (db i)) ∧ (∀ i, Real? (al i)) := by
  have e := congrFun h (fun a => a.elim0)
  unfold fn fn_part1 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  exact ⟨fun i => real_of_one _ _ i (Host.reduce_andi_all _ _ _ _ _ h1 i), fun i => real_of_one _ _ i (Host.reduce_andi_all _ _ _ _ _ h2 i),
    fun i => real_of_one _ _ i (Host.reduce_andi_all _ _ _ _ _ h3 i), fun i => real_of_one _ _ i (Host.reduce_andi_all _ _ _ _ _ h4 i),
    fun i => real_of_one _ _ i (Host.reduce_andi_all _ _ _ _ _ h5 i), fun i => real_of_one _ _ i (Host.reduce_andi_all _ _ _ _ _ h6 i)⟩

/-- The first eight lanes of the step sizes. -/
theorem first_lanes (i : Fin 2) (t : Fin 8192) (h : Fin 8) : extractStridedSlice S2x8192x8 ![0, 0, 0] d slices_S2x8192x128_S2x8192x8_0_0_0 (ix3 i t h)
    = d (ix3 i t ⟨h.val, by omega⟩) := by
  pointwise

end

/-- Under the precondition the mixer's inputs are real. -/
theorem inputs_finite (m : (ℓ : Loc Cert.KernelIdeal.nD Cert.KernelIdeal.τ Cert.KernelIdeal.sig) → Buf (Elt Ideal) ℓ) (hpre : Cert.Pre_KernelIdeal_finite m)
    (c : Dev Cert.KernelIdeal.nD) : (Cert.KernelIdeal.Ssd.inputs m c).Finite := by
  obtain ⟨hu, hd, hw, hcb, hdb, hal⟩ := all_real _ _ _ _ _ _ _ _ _ (hpre c)
  exact ⟨fun i t ch => hu (ix3 i t ch), fun i t h => by have := hd (ix3 i t h); rw [first_lanes] at this; exact this, fun k ch => hw (ix2 k ch), fun ch => hcb (ix1 ch),
    fun h => hdb (ix1 h), fun h => hal (ix1 h)⟩

end Cert.Pre_finite.Read
-- ==== Proof.RunningSum.lean ====
module

public import Idealize.ShloMosaic.PureOps.Ideal
public import Idealize.ShloMosaic.Lib.Pointwise

/-! A running sum written as a sum over a sliding window. -/

@[expose] public section

noncomputable section

namespace Cert.Mixer

open Idealize.ShloMosaic
open scoped BigOperators

/-- A left fold of additions is the start plus the sum. -/
theorem foldl_sum {n : ℕ} (g : Fin n → EReal) (v : EReal) : (List.finRange n).foldl (fun r k => r + g k) v = v + ∑ k, g k := by
  have e : ∀ (l : List (Fin n)) (v : EReal), l.foldl (fun r k => r + g k) v = v + (l.map g).sum := by
    intro l
    induction l with
    | nil => intro v; simp
    | cons a l ih => intro v; simp only [List.foldl_cons, List.map_cons, List.sum_cons]; rw [ih, add_assoc]
  rw [e, ← List.ofFn_eq_map, List.sum_ofFn]

/-- A window as long as the third axis, padded before it by one less: each entry is the sum of its column's entries down to
    its own row. -/
theorem window_sum {n0 n1 n3 R p : ℕ} (hR : p + 1 = R) (x : (⟨4, ![n0, n1, R, n3]⟩ : Shape).Idx → EReal)
    (init : (⟨0, ![]⟩ : Shape).Idx → EReal) (hu : 0 < (⟨0, ![]⟩ : Shape).numel) (hinit : init (Shape.Idx.first hu) = 0)
    (h : (⟨4, ![n0, n1, R, n3]⟩ : Shape).ReduceWindows (![1, 1, R, 1] : Fin 4 → ℕ) ![1, 1, 1, 1] ![0, 0, p, 0] ![0, 0, 0, 0] ⟨4, ![n0, n1, R, n3]⟩)
    (i : Fin n0) (j : Fin n1) (t : Fin R) (s : Fin n3) :
    Host.reduceWindow (· + ·) ![1, 1, R, 1] ![1, 1, 1, 1] ![0, 0, p, 0] ![0, 0, 0, 0] x init h hu (ix4 i j t s)
      = ∑ k : Fin R, if k.val ≤ t.val then x (ix4 i j k s) else 0 := by
  subst hR
  unfold Host.reduceWindow
  refine (foldl_sum _ _).trans ?_
  rw [hinit, zero_add]
  have ht := t.isLt
  obtain ⟨G, G1, G0⟩ : ∃ G : Fin (p + 1) → EReal, (∀ w r : Fin (p + 1), p ≤ t.val + w.val → r.val = t.val + w.val - p → G w = x (ix4 i j r s))
      ∧ ∀ w : Fin (p + 1), ¬ p ≤ t.val + w.val → G w = 0 :=
    ⟨fun w => if p ≤ t.val + w.val then x (ix4 i j ⟨t.val + w.val - p, by have := w.isLt; omega⟩ s) else 0,
      fun w r hle hr => (if_pos hle).trans (congrArg (fun r => x (ix4 i j r s)) (Fin.ext hr.symm)), fun w hle => if_neg hle⟩
  refine Eq.trans (b := ∑ n, G ((⟨4, ![1, 1, p + 1, 1]⟩ : Shape).rowMajor.symm n 2)) (Finset.sum_congr rfl fun n _ => ?_) ?_
  · let w : (⟨4, ![1, 1, p + 1, 1]⟩ : Shape).Idx := (⟨4, ![1, 1, p + 1, 1]⟩ : Shape).rowMajor.symm n
    change _ = G (w 2)
    have w0 : (w 0).val < 1 := (w 0).isLt
    have w1 : (w 1).val < 1 := (w 1).isLt
    have w2 : (w 2).val < p + 1 := (w 2).isLt
    have w3 : (w 3).val < 1 := (w 3).isLt
    split
    · next hin =>
      have hle : p ≤ t.val * 1 + (w 2).val := (hin 2).1
      refine Eq.trans (congrArg x (funext fun a => Fin.ext ?_)) (G1 (w 2) ⟨t.val + (w 2).val - p, by omega⟩ (by omega) rfl).symm
      match a with
      | ⟨0, _⟩ => show i.val * 1 + (w 0).val - 0 = i.val; omega
      | ⟨1, _⟩ => show j.val * 1 + (w 1).val - 0 = j.val; omega
      | ⟨2, _⟩ => show t.val * 1 + (w 2).val - p = t.val + (w 2).val - p; omega
      | ⟨3, _⟩ => show s.val * 1 + (w 3).val - 0 = s.val; omega
    · next hin =>
      refine (G0 (w 2) fun hle : p ≤ t.val + (w 2).val => hin fun a => ?_).symm
      match a with
      | ⟨0, _⟩ => exact ⟨Nat.zero_le _, by show i.val * 1 + (w 0).val - 0 < n0; have := i.isLt; omega⟩
      | ⟨1, _⟩ => exact ⟨Nat.zero_le _, by show j.val * 1 + (w 1).val - 0 < n1; have := j.isLt; omega⟩
      | ⟨2, _⟩ => exact ⟨by show p ≤ t.val * 1 + (w 2).val; omega, by show t.val * 1 + (w 2).val - p < p + 1; omega⟩
      | ⟨3, _⟩ => exact ⟨Nat.zero_le _, by show s.val * 1 + (w 3).val - 0 < n3; have := s.isLt; omega⟩
  refine ((⟨4, ![1, 1, p + 1, 1]⟩ : Shape).rowMajor.symm.sum_comp (fun w : (⟨4, ![1, 1, p + 1, 1]⟩ : Shape).Idx => G (w 2))).trans ?_
  rw [sum_idx4]
  simp only [Finset.univ_unique, Finset.sum_singleton]
  let k : Fin (p + 1) → Fin (p + 1) := fun w => ⟨if p ≤ t.val + w.val then t.val + w.val - p else t.val + w.val + 1, by have := w.isLt; split <;> omega⟩
  have hk : Function.Bijective k := by
    rw [← Finite.injective_iff_bijective]
    intro a b e
    have e' : (if p ≤ t.val + a.val then t.val + a.val - p else t.val + a.val + 1) = (if p ≤ t.val + b.val then t.val + b.val - p else t.val + b.val + 1) := congrArg Fin.val e
    have ha := a.isLt
    have hb := b.isLt
    refine Fin.ext ?_
    split at e' <;> split at e' <;> omega
  refine Fintype.sum_bijective k hk _ _ fun w => ?_
  have hw := w.isLt
  show G w = _
  by_cases hle : p ≤ t.val + w.val
  · have hkv : (k w).val = t.val + w.val - p := by show (if _ then _ else _) = _; rw [if_pos hle]
    rw [if_pos (by omega)]
    exact G1 w (k w) hle hkv
  · have hkv : (k w).val = t.val + w.val + 1 := by show (if _ then _ else _) = _; rw [if_neg hle]
    rw [if_neg (by omega)]
    exact G0 w hle

end Cert.Mixer
-- ==== Proof.Reference.lean ====
module

public import proofs.«01_k».proof.Proof.Gen.ReferenceIdeal
public import proofs.«01_k».proof.Proof.Model
public import proofs.«01_k».proof.Proof.RunningSum
public import Idealize.ShloMosaic.Lib.Pointwise
public import Idealize.ShloMosaic.Lib.StableHlo
public import Idealize.ShloMosaic.Lib.WordCmp
public import proofs.«01_k».proof.Proof.Words

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.Mixer

/-- The three rows of zeros before the sequence. -/
def padded (u : FVec Ideal S2x8192x1024 .f32) : FVec Ideal S2x8195x1024 .f32 :=
  pad S2x8195x1024 ![0, 3, 0] ![0, 0, 0] ![0, 0, 0] u (sitofp .f32 (constantI S_ 32 0#32)) pads_S2x8192x1024_S2x8195x1024_000_300_000 h_S_

/-- One row of the convolution's weights, repeated over the tokens. -/
def row0 (w : FVec Ideal S4x1024 .f32) : FVec Ideal S2x8192x1024 .f32 :=
  broadcastInDim S2x8192x1024 ![0, 1, 2] bcast_S1x1x1024_S2x8192x1024_0_1_2 (broadcastInDim S1x1x1024 ![2] bcast_S1024_S1x1x1024_2
    (shapeCast _ (extractStridedSlice S1x1024 ![0, 0] w slices_S4x1024_S1x1024_0_0) shapeCasts_S1x1024_S1024))
/-- The second row. -/
def row1 (w : FVec Ideal S4x1024 .f32) : FVec Ideal S2x8192x1024 .f32 :=
  broadcastInDim S2x8192x1024 ![0, 1, 2] bcast_S1x1x1024_S2x8192x1024_0_1_2 (broadcastInDim S1x1x1024 ![2] bcast_S1024_S1x1x1024_2
    (shapeCast _ (extractStridedSlice S1x1024 ![1, 0] w slices_S4x1024_S1x1024_1_0) shapeCasts_S1x1024_S1024))
/-- The third row. -/
def row2 (w : FVec Ideal S4x1024 .f32) : FVec Ideal S2x8192x1024 .f32 :=
  broadcastInDim S2x8192x1024 ![0, 1, 2] bcast_S1x1x1024_S2x8192x1024_0_1_2 (broadcastInDim S1x1x1024 ![2] bcast_S1024_S1x1x1024_2
    (shapeCast _ (extractStridedSlice S1x1024 ![2, 0] w slices_S4x1024_S1x1024_2_0) shapeCasts_S1x1024_S1024))
/-- The fourth row. -/
def row3 (w : FVec Ideal S4x1024 .f32) : FVec Ideal S2x8192x1024 .f32 :=
  broadcastInDim S2x8192x1024 ![0, 1, 2] bcast_S1x1x1024_S2x8192x1024_0_1_2 (broadcastInDim S1x1x1024 ![2] bcast_S1024_S1x1x1024_2
    (shapeCast _ (extractStridedSlice S1x1024 ![3, 0] w slices_S4x1024_S1x1024_3_0) shapeCasts_S1x1024_S1024))

/-- The causal convolution of `u` by `w`, plus its bias. -/
def conv (u : FVec Ideal S2x8192x1024 .f32) (w : FVec Ideal S4x1024 .f32) (b : FVec Ideal S1024 .f32) : FVec Ideal S2x8192x1024 .f32 :=
  addf (addf (addf (addf (mulf (extractStridedSlice S2x8192x1024 ![0, 0, 0] (padded u) slices_S2x8195x1024_S2x8192x1024_0_0_0) (row0 w))
    (mulf (extractStridedSlice S2x8192x1024 ![0, 1, 0] (padded u) slices_S2x8195x1024_S2x8192x1024_0_1_0) (row1 w)))
    (mulf (extractStridedSlice S2x8192x1024 ![0, 2, 0] (padded u) slices_S2x8195x1024_S2x8192x1024_0_2_0) (row2 w)))
    (mulf (extractStridedSlice S2x8192x1024 ![0, 3, 0] (padded u) slices_S2x8195x1024_S2x8192x1024_0_3_0) (row3 w)))
    (broadcastInDim S2x8192x1024 ![0, 1, 2] bcast_S1x1x1024_S2x8192x1024_0_1_2 (broadcastInDim S1x1x1024 ![2] bcast_S1024_S1x1x1024_2 b))

/-- `v · logistic v`. -/
def silu1024 (v : FVec Ideal S2x8192x1024 .f32) : FVec Ideal S2x8192x1024 .f32 :=
  mulf v (Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf v))))
/-- `v · logistic v`, on the gate's shape. -/
def silu512 (v : FVec Ideal S2x8192x512 .f32) : FVec Ideal S2x8192x512 .f32 :=
  mulf v (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf v))))

/-- The heads' inputs: the first 512 channels, by head and lane. -/
def heads (a : FVec Ideal S2x8192x1024 .f32) : FVec Ideal S2x8192x8x64 .f32 :=
  shapeCast _ (extractStridedSlice S2x8192x512 ![0, 0, 0] a slices_S2x8192x1024_S2x8192x512_0_0_0) shapeCasts_S2x8192x512_S2x8192x8x64
/-- B of every head: the group's 128 channels from 512 on. -/
def bmat (a : FVec Ideal S2x8192x1024 .f32) : FVec Ideal S2x8192x8x128 .f32 :=
  shapeCast _ (broadcastInDim S2x8192x2x4x128 ![0, 1, 2, 4] bcast_S2x8192x2x128_S2x8192x2x4x128_0_1_2_4
    (shapeCast S2x8192x2x128 (extractStridedSlice S2x8192x256 ![0, 0, 512] a slices_S2x8192x1024_S2x8192x256_0_0_512) shapeCasts_S2x8192x256_S2x8192x2x128))
    shapeCasts_S2x8192x2x4x128_S2x8192x8x128
/-- C of every head: the group's 128 channels from 768 on. -/
def cmat (a : FVec Ideal S2x8192x1024 .f32) : FVec Ideal S2x8192x8x128 .f32 :=
  shapeCast _ (broadcastInDim S2x8192x2x4x128 ![0, 1, 2, 4] bcast_S2x8192x2x128_S2x8192x2x4x128_0_1_2_4
    (shapeCast S2x8192x2x128 (extractStridedSlice S2x8192x256 ![0, 0, 768] a slices_S2x8192x1024_S2x8192x256_0_0_768) shapeCasts_S2x8192x256_S2x8192x2x128))
    shapeCasts_S2x8192x2x4x128_S2x8192x8x128

/-- The step sizes before the softplus. -/
def dtRaw (dt : FVec Ideal S2x8192x128 .f32) (b : FVec Ideal S8 .f32) : FVec Ideal S2x8192x8 .f32 :=
  addf (extractStridedSlice S2x8192x8 ![0, 0, 0] dt slices_S2x8192x128_S2x8192x8_0_0_0)
    (broadcastInDim S2x8192x8 ![0, 1, 2] bcast_S1x1x8_S2x8192x8_0_1_2 (broadcastInDim S1x1x8 ![2] bcast_S8_S1x1x8_2 b))
/-- The softplus, as the maximum with zero plus the logarithm of one plus an exponential. -/
def softplus (v : FVec Ideal S2x8192x8 .f32) : FVec Ideal S2x8192x8 .f32 :=
  select (cmpf .une (subf v (broadcastInDim S2x8192x8 ![] bcast_S_S2x8192x8 (constant S_ .f32 0x00000000#32)))
      (subf v (broadcastInDim S2x8192x8 ![] bcast_S_S2x8192x8 (constant S_ .f32 0x00000000#32))))
    (addf v (broadcastInDim S2x8192x8 ![] bcast_S_S2x8192x8 (constant S_ .f32 0x00000000#32)))
    (addf (maximumf v (broadcastInDim S2x8192x8 ![] bcast_S_S2x8192x8 (constant S_ .f32 0x00000000#32)))
      (Host.log1p (Host.exp (Host.negf (Host.absf (subf v (broadcastInDim S2x8192x8 ![] bcast_S_S2x8192x8 (constant S_ .f32 0x00000000#32))))))))

/-- What each token adds to a head: its input times its step size. -/
def xdt (x : FVec Ideal S2x8192x8x64 .f32) (d : FVec Ideal S2x8192x8 .f32) : FVec Ideal S2x8192x8x64 .f32 :=
  mulf x (broadcastInDim S2x8192x8x64 ![0, 1, 2, 3] bcast_S2x8192x8x1_S2x8192x8x64_0_1_2_3
    (broadcastInDim S2x8192x8x1 ![0, 1, 2] bcast_S2x8192x8_S2x8192x8x1_0_1_2 d))
/-- The log of each token's decay, by head. -/
def logDecay (d : FVec Ideal S2x8192x8 .f32) (al : FVec Ideal S8 .f32) : FVec Ideal S2x8x8192 .f32 :=
  transpose S2x8x8192 [0, 2, 1] (mulf d (broadcastInDim S2x8192x8 ![0, 1, 2] bcast_S1x1x8_S2x8192x8_0_1_2
    (broadcastInDim S1x1x8 ![2] bcast_S8_S1x1x8_2 (Host.negf (Host.exp al))))) transposes_S2x8192x8_S2x8x8192_0_2_1
/-- True where the row is at or below the column less one. -/
def strict : IVec S8192x8192 1 :=
  select (cmpi .sge (addi (iotaInDim S8192x8192 32 0) (broadcastInDim S8192x8192 ![] bcast_S_S8192x8192 (constantI S_ 32 4294967295#32))) (iotaInDim S8192x8192 32 1))
    (broadcastInDim S8192x8192 ![] bcast_S_S8192x8192 (constantI S_ 1 1#1)) (broadcastInDim S8192x8192 ![] bcast_S_S8192x8192 (constantI S_ 1 0#1))
/-- True where the row is at or below the column. -/
def lower : IVec S8192x8192 1 :=
  select (cmpi .sge (addi (iotaInDim S8192x8192 32 0) (broadcastInDim S8192x8192 ![] bcast_S_S8192x8192 (constantI S_ 32 0#32))) (iotaInDim S8192x8192 32 1))
    (broadcastInDim S8192x8192 ![] bcast_S_S8192x8192 (constantI S_ 1 1#1)) (broadcastInDim S8192x8192 ![] bcast_S_S8192x8192 (constantI S_ 1 0#1))
/-- The log decays repeated along a new axis, kept only strictly below the diagonal. -/
def masked (a : FVec Ideal S2x8x8192 .f32) : FVec Ideal S2x8x8192x8192 .f32 :=
  select (broadcastInDim S2x8x8192x8192 ![2, 3] bcast_S8192x8192_S2x8x8192x8192_2_3 strict)
    (broadcastInDim S2x8x8192x8192 ![0, 1, 2, 3] bcast_S2x8x8192x1_S2x8x8192x8192_0_1_2_3 (broadcastInDim S2x8x8192x1 ![0, 1, 2] bcast_S2x8x8192_S2x8x8192x1_0_1_2 a))
    (broadcastInDim S2x8x8192x8192 ![] bcast_S_S2x8x8192x8192 (constant S_ .f32 0x00000000#32))
/-- Their running sums down the rows. -/
def running (x : FVec Ideal S2x8x8192x8192 .f32) : FVec Ideal S2x8x8192x8192 .f32 :=
  Host.reduceWindowAdd ![1, 1, 8192, 1] ![1, 1, 1, 1] ![0, 0, 8191, 0] ![0, 0, 0, 0] x (broadcastInDim S_ ![] bcast_S_S_ (constant S_ .f32 0x00000000#32))
    reduceWindows_S2x8x8192x8192_S2x8x8192x8192_w1s1p0_0_w1s1p0_0_w8192s1p8191_0_w1s1p0_0 h_S_
/-- The decay between two tokens: zero above the diagonal. -/
def decay (r : FVec Ideal S2x8x8192x8192 .f32) : FVec Ideal S2x8x8192x8192 .f32 :=
  Host.exp (select (broadcastInDim S2x8x8192x8192 ![2, 3] bcast_S8192x8192_S2x8x8192x8192_2_3 lower) r
    (broadcastInDim S2x8x8192x8192 ![] bcast_S_S2x8x8192x8192 (constant S_ .f32 0xFF800000#32)))
/-- Every token's weighted sum over the tokens before it. -/
def mixed (x : FVec Ideal S2x8192x8x64 .f32) (c b : FVec Ideal S2x8192x8x128 .f32) (e : FVec Ideal S2x8x8192x8192 .f32) : FVec Ideal S2x8192x8x64 .f32 :=
  transpose S2x8192x8x64 [0, 3, 1, 2] (Host.dotGeneral dot_S2x8192x8x64_S2x8x8192x8192_S2x8x64x8192_1_3_3_2_02_01 none x
    (mulf (Host.dotGeneral dot_S2x8192x8x128_S2x8192x8x128_S2x8x8192x8192_3_3_1_1_02_02 none c b) e)) transposes_S2x8x64x8192_S2x8192x8x64_0_3_1_2
/-- The skip of each head's input. -/
def skip (x : FVec Ideal S2x8192x8x64 .f32) (d : FVec Ideal S8 .f32) : FVec Ideal S2x8192x8x64 .f32 :=
  mulf x (broadcastInDim S2x8192x8x64 ![0, 1, 2, 3] bcast_S1x1x8x1_S2x8192x8x64_0_1_2_3 (broadcastInDim S1x1x8x1 ![2, 3] bcast_S8x1_S1x1x8x1_2_3
    (broadcastInDim S8x1 ![0] bcast_S8_S8x1_0 d)))
/-- The output before the normalisation, by group of 256 lanes. -/
def gated (y s : FVec Ideal S2x8192x8x64 .f32) (z : FVec Ideal S2x8192x512 .f32) : FVec Ideal S2x8192x2x256 .f32 :=
  shapeCast _ (mulf (shapeCast S2x8192x512 (addf y s) shapeCasts_S2x8192x8x64_S2x8192x512) (silu512 z)) shapeCasts_S2x8192x512_S2x8192x2x256
/-- The group's normalisation and its weights. -/
def normed (g : FVec Ideal S2x8192x2x256 .f32) (w : FVec Ideal S512 .f32) : FVec Ideal S2x8192x512 .bf16 :=
  truncf .bf16 (shapeCast S2x8192x512 (mulf (mulf g (broadcastInDim S2x8192x2x256 ![0, 1, 2, 3] bcast_S2x8192x2x1_S2x8192x2x256_0_1_2_3
    (Host.rsqrt (addf (Host.divf (broadcastInDim S2x8192x2x1 ![0, 1, 2] bcast_S2x8192x2_S2x8192x2x1_0_1_2
      (Host.reduceAdd (mulf g g) (constant S_ .f32 0x00000000#32) reducesTo_S2x8192x2x256_S2x8192x2_d3 h_S_))
      (broadcastInDim S2x8192x2x1 ![] bcast_S_S2x8192x2x1 (constant S_ .f32 0x43800000#32)))
      (broadcastInDim S2x8192x2x1 ![] bcast_S_S2x8192x2x1 (constant S_ .f32 0x358637BD#32))))))
    (broadcastInDim S2x8192x2x256 ![0, 1, 2, 3] bcast_S1x1x2x256_S2x8192x2x256_0_1_2_3 (broadcastInDim S1x1x2x256 ![2, 3] bcast_S2x256_S1x1x2x256_2_3
      (shapeCast S2x256 w shapeCasts_S512_S2x256)))) shapeCasts_S2x8192x2x256_S2x8192x512) bitsLt_bf16_f32

/-! ### The stages at an index -/

/-- A host window sum of floats is the plain window sum. -/
theorem windowAdd_eq {s t u : Shape} (window strides lo hi : Fin s.rank → Nat) (x : FVec Ideal s .f32) (init : FVec Ideal u .f32)
    (h : s.ReduceWindows window strides lo hi t) (hu : 0 < u.numel) :
    Host.reduceWindowAdd window strides lo hi x init h hu = Host.reduceWindow (· + · : EReal → EReal → EReal) window strides lo hi x init h hu := rfl

/-- The window's running sum at a row: the column's entries down to that row. -/
theorem running_at (x : FVec Ideal S2x8x8192x8192 .f32) (i : Fin 2) (h : Fin 8) (t s : Fin 8192) :
    running x (ix4 i h t s) = ∑ k : Fin 8192, if k.val ≤ t.val then x (ix4 i h k s) else 0 := by
  unfold running
  rw [windowAdd_eq]
  exact window_sum (n0 := 2) (n1 := 8) (n3 := 8192) (R := 8192) (p := 8191) (by norm_num) x _ h_S_ (by pointwise) _ i h t s

/-- The reference's inputs by coordinates. -/
def inputs (u : FVec Ideal S2x8192x1024 .f32) (dt : FVec Ideal S2x8192x128 .f32) (z : FVec Ideal S2x8192x512 .f32) (w : FVec Ideal S4x1024 .f32)
    (b : FVec Ideal S1024 .f32) (db al sk : FVec Ideal S8 .f32) (nw : FVec Ideal S512 .f32) : Inputs where
  u i t ch := u (ix3 i t ch)
  d i t h := dt (ix3 i t ⟨h.val, by omega⟩)
  z i t j := z (ix3 i t j)
  w k ch := w (ix2 k ch)
  cb ch := b (ix1 ch)
  db h := db (ix1 h)
  al h := al (ix1 h)
  sk h := sk (ix1 h)
  nw j := nw (ix1 j)

section
variable (u : FVec Ideal S2x8192x1024 .f32) (dt : FVec Ideal S2x8192x128 .f32) (z : FVec Ideal S2x8192x512 .f32) (w : FVec Ideal S4x1024 .f32)
    (b : FVec Ideal S1024 .f32) (db al sk : FVec Ideal S8 .f32) (nw : FVec Ideal S512 .f32)

/-- The convolution at a token. -/
theorem conv_at (i : Fin 2) (t : Fin 8192) (ch : Fin 1024) :
    conv u w b (ix3 i t ch) = Mixer.conv (inputs u dt z w b db al sk nw) i t ch := by
  pointwise [conv, padded, row0, row1, row2, row3]
  have e : ∀ d : ℕ, d ≤ 3 → (if h : 3 ≤ (3 - d) + t.val ∧ (3 - d) + t.val - 3 < 8192 then u (ix3 i ⟨(3 - d) + t.val - 3, h.2⟩ ch) else FloatOps.sitofp .f32 0#32)
      = prev (inputs u dt z w b db al sk nw) d i t ch := fun d hd => by
    unfold Mixer.prev
    have ht := t.isLt
    by_cases hle : d ≤ t.val
    · rw [dif_pos ⟨by omega, by omega⟩, if_pos hle]
      exact congrArg (fun r => u (ix3 i r ch)) (Fin.ext (show 3 - d + t.val - 3 = t.val - d by omega))
    · rw [dif_neg (by omega), if_neg hle]
      exact zero_word
  have e3 := e 3 (by omega)
  have e2 := e 2 (by omega)
  have e1 := e 1 (by omega)
  simp only [Nat.sub_self, Nat.zero_add, Nat.reduceSub] at e3 e2 e1
  rw [e3, e2, e1]
  rfl
/-- The activation at a token. -/
theorem act_at (i : Fin 2) (t : Fin 8192) (ch : Fin 1024) :
    silu1024 (conv u w b) (ix3 i t ch) = Mixer.act (inputs u dt z w b db al sk nw) i t ch := by
  pointwise [silu1024]
  rw [conv_at u dt z w b db al sk nw]
  rfl
/-- The step size at a token. -/
theorem step_at (i : Fin 2) (t : Fin 8192) (h : Fin 8) :
    softplus (dtRaw dt db) (ix3 i t h) = Mixer.step (inputs u dt z w b db al sk nw) i t h := by
  pointwise [softplus, dtRaw]
  rw [if_neg (fun h => h rfl)]
  rfl
/-- A head's input. -/
theorem heads_at (v : FVec Ideal S2x8192x1024 .f32) (i : Fin 2) (t : Fin 8192) (h : Fin 8) (l : Fin 64) :
    heads v (ix4 i t h l) = v (ix3 i t ⟨h.val * 64 + l.val, by omega⟩) := by
  pointwise [heads]
/-- A head's input weights. -/
theorem bmat_at (v : FVec Ideal S2x8192x1024 .f32) (i : Fin 2) (t : Fin 8192) (h : Fin 8) (l : Fin 128) :
    bmat v (ix4 i t h l) = v (ix3 i t ⟨512 + (h.val / 4 * 128 + l.val), by omega⟩) := by
  pointwise [bmat]
/-- A head's output weights. -/
theorem cmat_at (v : FVec Ideal S2x8192x1024 .f32) (i : Fin 2) (t : Fin 8192) (h : Fin 8) (l : Fin 128) :
    cmat v (ix4 i t h l) = v (ix3 i t ⟨768 + (h.val / 4 * 128 + l.val), by omega⟩) := by
  pointwise [cmat]
/-- A head's input times its step size. -/
theorem xdt_at (x d) (i : Fin 2) (t : Fin 8192) (h : Fin 8) (l : Fin 64) : xdt x d (ix4 i t h l) = x (ix4 i t h l) * d (ix3 i t h) := by
  pointwise [xdt]
/-- The logarithm of a decay. -/
theorem logDecay_at (d a) (i : Fin 2) (t : Fin 8192) (h : Fin 8) : logDecay d a (ix3 i h t) = d (ix3 i t h) * -Ideal.exp (a (ix1 h)) := by
  pointwise [logDecay]
/-- The masked logarithms: those of the rows strictly below the column. -/
theorem masked_at (x) (i : Fin 2) (t s : Fin 8192) (h : Fin 8) : masked x (ix4 i h t s) = if s.val < t.val then x (ix3 i h t) else 0 := by
  pointwise [masked, strict]
  rw [strict_word, WordCmp.select_ofBool]
  by_cases h : s.val < t.val <;> simp [h, Scalar.select]
/-- The decay between two tokens. -/
theorem decay_at (x) (i : Fin 2) (t s : Fin 8192) (h : Fin 8) : decay x (ix4 i h t s) = if s.val ≤ t.val then Ideal.exp (x (ix4 i h t s)) else 0 := by
  pointwise [decay, lower]
  rw [lower_word, WordCmp.select_ofBool, bot_word]
  by_cases h : s.val ≤ t.val <;> simp [h, Scalar.select]
/-- The weighted sum over the tokens. -/
theorem mixed_at (x c b e) (i : Fin 2) (t : Fin 8192) (h : Fin 8) (l : Fin 64) :
    mixed x c b e (ix4 i t h l) = ∑ s, x (ix4 i s h l) * ((∑ n, c (ix4 i t h n) * b (ix4 i s h n)) * e (ix4 i h t s)) := by
  pointwise [mixed]

/-- Summing a row's logarithms down a column, strictly below the column's own row: the difference of two running totals. -/
theorem column_sum (a : ℕ → ℝ) (s t : ℕ) (h : s ≤ t) (ht : t < 8192) :
    (∑ k : Fin 8192, if k.val ≤ t then (if s < k.val then a k.val else 0) else 0) = ∑ k ∈ Finset.range (t + 1), a k - ∑ k ∈ Finset.range (s + 1), a k := by
  rw [Fin.sum_univ_eq_sum_range (fun k => if k ≤ t then (if s < k then a k else 0) else 0) 8192]
  obtain ⟨e, he⟩ := Nat.exists_eq_add_of_le h
  obtain ⟨f, hf⟩ := Nat.exists_eq_add_of_lt ht
  have e1 : 8192 = (s + 1) + e + f := by omega
  have e2 : t + 1 = (s + 1) + e := by omega
  rw [e1, Finset.sum_range_add _ (s + 1 + e) f, Finset.sum_range_add _ (s + 1) e, e2, Finset.sum_range_add _ (s + 1) e]
  have z1 : ∑ k ∈ Finset.range (s + 1), (if k ≤ t then (if s < k then a k else 0) else 0) = 0 :=
    Finset.sum_eq_zero fun k hk => by
      have := Finset.mem_range.mp hk
      rw [if_neg (show ¬ s < k by omega), ite_self]
  have z3 : ∑ k ∈ Finset.range f, (if s + 1 + e + k ≤ t then (if s < s + 1 + e + k then a (s + 1 + e + k) else 0) else 0) = 0 :=
    Finset.sum_eq_zero fun k _ => if_neg (by omega)
  have z2 : ∑ k ∈ Finset.range e, (if s + 1 + k ≤ t then (if s < s + 1 + k then a (s + 1 + k) else 0) else 0) = ∑ k ∈ Finset.range e, a (s + 1 + k) :=
    Finset.sum_congr rfl fun k hk => by
      have := Finset.mem_range.mp hk
      rw [if_pos (by omega), if_pos (by omega)]
  rw [z1, z2, z3]
  ring

end

end Cert.ReferenceIdeal.Ssd
-- ==== Proof.ReferenceMix.lean ====
module

public import proofs.«01_k».proof.Proof.Gen.ReferenceIdeal
public import proofs.«01_k».proof.Proof.Reference
public import Idealize.ShloMosaic.Lib.Pointwise
public import Idealize.ShloMosaic.Lib.StableHlo
public import Idealize.ShloMosaic.Lib.WordCmp

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.Mixer

variable (u : FVec Ideal S2x8192x1024 .f32) (dt : FVec Ideal S2x8192x128 .f32) (z : FVec Ideal S2x8192x512 .f32) (w : FVec Ideal S4x1024 .f32)
    (b : FVec Ideal S1024 .f32) (db al sk : FVec Ideal S8 .f32) (nw : FVec Ideal S512 .f32)

/-- The decay from one token to another, as a real number. -/
theorem fade_at (hI : (inputs u dt z w b db al sk nw).Finite) (i : Fin 2) (h : Fin 8) (t s : Fin 8192) :
    decay (running (masked (logDecay (softplus (dtRaw dt db)) al))) (ix4 i h t s) = (fade (inputs u dt z w b db al sk nw) i h t.val s.val : EReal) := by
  rw [decay_at, running_at]
  unfold fade
  by_cases hst : s.val ≤ t.val
  · rw [if_pos hst, if_pos hst]
    have e : ∀ k : Fin 8192, (if k.val ≤ t.val then masked (logDecay (softplus (dtRaw dt db)) al) (ix4 i h k s) else 0)
        = (((if k.val ≤ t.val then (if s.val < k.val then rateR (inputs u dt z w b db al sk nw) i h k.val else 0) else 0 : ℝ)) : EReal) := fun k => by
      rw [masked_at, logDecay_at, step_at u dt z w b db al sk nw]
      rw [show Mixer.step (inputs u dt z w b db al sk nw) i k h * -Ideal.exp (al (ix1 h)) = (rateR (inputs u dt z w b db al sk nw) i h k.val : EReal) from
        rate_eq hI i k.val k.isLt h]
      split
      · split <;> rfl
      · rfl
    rw [Finset.sum_congr rfl fun k _ => e k, coe_sum, column_sum _ _ _ hst t.isLt]
    rfl
  · rw [if_neg hst, if_neg hst]
    rfl

/-- The weighted sum of a head's lane, as a real number. -/
theorem mix_at (hI : (inputs u dt z w b db al sk nw).Finite) (i : Fin 2) (t : Fin 8192) (j : Fin 512) (hl : j.val / 64 < 8) (hr : j.val % 64 < 64) :
    mixed (xdt (heads (silu1024 (conv u w b))) (softplus (dtRaw dt db))) (cmat (silu1024 (conv u w b))) (bmat (silu1024 (conv u w b)))
      (decay (running (masked (logDecay (softplus (dtRaw dt db)) al)))) (ix4 i t ⟨j.val / 64, hl⟩ ⟨j.val % 64, hr⟩)
      = (mix (inputs u dt z w b db al sk nw) i j t.val : EReal) := by
  rw [mixed_at]
  have e : ∀ s : Fin 8192, xdt (heads (silu1024 (conv u w b))) (softplus (dtRaw dt db)) (ix4 i s ⟨j.val / 64, hl⟩ ⟨j.val % 64, hr⟩)
      * ((∑ n, cmat (silu1024 (conv u w b)) (ix4 i t ⟨j.val / 64, hl⟩ n) * bmat (silu1024 (conv u w b)) (ix4 i s ⟨j.val / 64, hl⟩ n))
        * decay (running (masked (logDecay (softplus (dtRaw dt db)) al))) (ix4 i ⟨j.val / 64, hl⟩ t s))
      = ((score (inputs u dt z w b db al sk nw) i j t.val s.val * fade (inputs u dt z w b db al sk nw) i (hd j) t.val s.val
          * inR (inputs u dt z w b db al sk nw) i j s.val : ℝ) : EReal) := fun s => by
    have hc : ∀ n : Fin 128, cmat (silu1024 (conv u w b)) (ix4 i t ⟨j.val / 64, hl⟩ n) = (actR (inputs u dt z w b db al sk nw) i (chC j n) t.val : EReal) := fun n => by
      rw [cmat_at, act_at u dt z w b db al sk nw, ← act_eq hI i t.val t.isLt]
      exact congrArg (fun ch => act (inputs u dt z w b db al sk nw) i t ch) (Fin.ext (show 768 + (j.val / 64 / 4 * 128 + n.val) = 768 + (j.val / 256 * 128 + n.val) by omega))
    have hb : ∀ n : Fin 128, bmat (silu1024 (conv u w b)) (ix4 i s ⟨j.val / 64, hl⟩ n) = (actR (inputs u dt z w b db al sk nw) i (chB j n) s.val : EReal) := fun n => by
      rw [bmat_at, act_at u dt z w b db al sk nw, ← act_eq hI i s.val s.isLt]
      exact congrArg (fun ch => act (inputs u dt z w b db al sk nw) i s ch) (Fin.ext (show 512 + (j.val / 64 / 4 * 128 + n.val) = 512 + (j.val / 256 * 128 + n.val) by omega))
    have hx : xdt (heads (silu1024 (conv u w b))) (softplus (dtRaw dt db)) (ix4 i s ⟨j.val / 64, hl⟩ ⟨j.val % 64, hr⟩) = (inR (inputs u dt z w b db al sk nw) i j s.val : EReal) := by
      rw [xdt_at, heads_at, act_at u dt z w b db al sk nw, step_at u dt z w b db al sk nw]
      unfold inR
      rw [EReal.coe_mul, ← act_eq hI i s.val s.isLt, ← step_eq hI i s.val s.isLt]
      exact congrArg (fun ch => act (inputs u dt z w b db al sk nw) i s ch * _) (Fin.ext (show j.val / 64 * 64 + j.val % 64 = j.val by omega))
    have hs : (∑ n, cmat (silu1024 (conv u w b)) (ix4 i t ⟨j.val / 64, hl⟩ n) * bmat (silu1024 (conv u w b)) (ix4 i s ⟨j.val / 64, hl⟩ n))
        = (score (inputs u dt z w b db al sk nw) i j t.val s.val : EReal) := by
      unfold score
      rw [← coe_sum]
      exact Finset.sum_congr rfl fun n _ => by rw [hc, hb, EReal.coe_mul]
    rw [hx, hs, fade_at u dt z w b db al sk nw hI, EReal.coe_mul, EReal.coe_mul, mul_comm]
    rfl
  rw [Finset.sum_congr rfl fun s _ => e s, coe_sum]
  unfold mix
  rw [Fin.sum_univ_eq_sum_range (fun s => score (inputs u dt z w b db al sk nw) i j t.val s * fade (inputs u dt z w b db al sk nw) i (hd j) t.val s
          * inR (inputs u dt z w b db al sk nw) i j s) 8192]

end Cert.ReferenceIdeal.Ssd
-- ==== Proof.ReferenceResult.lean ====
module

public import proofs.«01_k».proof.Proof.Gen.ReferenceIdeal
public import proofs.«01_k».proof.Proof.ReferenceMix
public import Idealize.ShloMosaic.Lib.Pointwise
public import Idealize.ShloMosaic.Lib.StableHlo
public import Idealize.ShloMosaic.Lib.WordCmp

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.Mixer

variable (u : FVec Ideal S2x8192x1024 .f32) (dt : FVec Ideal S2x8192x128 .f32) (z : FVec Ideal S2x8192x512 .f32) (w : FVec Ideal S4x1024 .f32)
    (b : FVec Ideal S1024 .f32) (db al sk : FVec Ideal S8 .f32) (nw : FVec Ideal S512 .f32)

/-- The normalised value, given the gated values. -/
theorem normed_at (x s : FVec Ideal S2x8192x8x64 .f32) (d : FVec Ideal S8 .f32) (i : Fin 2) (t : Fin 8192) (G : Fin 512 → EReal)
    (hG : ∀ (j : Fin 512) (hl : j.val / 64 < 8) (hr : j.val % 64 < 64),
      (x (ix4 i t ⟨j.val / 64, hl⟩ ⟨j.val % 64, hr⟩) + s (ix4 i t ⟨j.val / 64, hl⟩ ⟨j.val % 64, hr⟩) * d (ix1 ⟨j.val / 64, hl⟩))
        * (z (ix3 i t j) * Ideal.div 1 (1 + Ideal.exp (-z (ix3 i t j)))) = G j) (j : Fin 512) :
    normed (gated x (skip s d) z) nw (ix3 i t j)
      = G j * Ideal.rsqrt (Ideal.div (∑ x : Fin 256, G (mate j x) * G (mate j x)) (Ideal.ofBits .f32 0x43800000#32) + Ideal.ofBits .f32 0x358637BD#32) * nw (ix1 j) := by
  pointwise [normed, gated, silu512, skip]
  refine congrArg₂ (fun a b : EReal => a * b) (congrArg₂ (fun a b : EReal => a * b) (hG j _ _)
    (congrArg (fun S : EReal => Ideal.rsqrt (Ideal.div S (Ideal.ofBits .f32 0x43800000#32) + Ideal.ofBits .f32 0x358637BD#32))
      (Finset.sum_congr rfl fun x _ => congrArg₂ (fun a b : EReal => a * b) (hG (mate j x) _ _) (hG (mate j x) _ _)))) rfl

/-- The gated value at a lane. -/
theorem gate_at (hI : (inputs u dt z w b db al sk nw).Finite) (i : Fin 2) (t : Fin 8192) (j : Fin 512) (hl : j.val / 64 < 8) (hr : j.val % 64 < 64) :
    (mixed (xdt (heads (silu1024 (conv u w b))) (softplus (dtRaw dt db))) (cmat (silu1024 (conv u w b))) (bmat (silu1024 (conv u w b)))
        (decay (running (masked (logDecay (softplus (dtRaw dt db)) al)))) (ix4 i t ⟨j.val / 64, hl⟩ ⟨j.val % 64, hr⟩)
        + heads (silu1024 (conv u w b)) (ix4 i t ⟨j.val / 64, hl⟩ ⟨j.val % 64, hr⟩) * sk (ix1 ⟨j.val / 64, hl⟩))
        * (z (ix3 i t j) * Ideal.div 1 (1 + Ideal.exp (-z (ix3 i t j)))) = gate (inputs u dt z w b db al sk nw) i t j := by
  rw [mix_at u dt z w b db al sk nw hI, heads_at, act_at u dt z w b db al sk nw]
  unfold gate
  rw [show (⟨j.val / 64 * 64 + j.val % 64, by omega⟩ : Fin 1024) = chX j from Fin.ext (show j.val / 64 * 64 + j.val % 64 = j.val by omega)]
  rfl

/-- The whole reference over its inputs. -/
def result : FVec Ideal S2x8192x512 .bf16 :=
  normed (gated (mixed (xdt (heads (silu1024 (conv u w b))) (softplus (dtRaw dt db))) (cmat (silu1024 (conv u w b))) (bmat (silu1024 (conv u w b)))
    (decay (running (masked (logDecay (softplus (dtRaw dt db)) al))))) (skip (heads (silu1024 (conv u w b))) sk) z) nw

/-- The reference computes the mixer. -/
theorem result_at (hI : (inputs u dt z w b db al sk nw).Finite) (i : Fin 2) (t : Fin 8192) (j : Fin 512) :
    result u dt z w b db al sk nw (ix3 i t j) = out (inputs u dt z w b db al sk nw) i t j :=
  normed_at z nw _ _ sk i t (gate (inputs u dt z w b db al sk nw) i t) (gate_at u dt z w b db al sk nw hI i t) j

end Cert.ReferenceIdeal.Ssd
-- ==== Proof.ReferenceTie.lean ====
module

public import proofs.«01_k».proof.Proof.Gen.ReferenceIdeal.Run
public import proofs.«01_k».proof.Proof.ReferenceResult

/-! The reference program's result array is the staged reference over its arguments. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.Mixer

/-- The printed composition is the staged one. -/
theorem res_eq (m : (ℓ : Loc nD τ sig) → Buf (Elt Ideal) ℓ) (c : Dev nD) :
    Cert.ReferenceIdeal.Value.res_main_v94 m c = result (m ((c.tc : Thread nD τ).loc main_arg1)) (m ((c.tc : Thread nD τ).loc main_arg2)) (m ((c.tc : Thread nD τ).loc main_arg0))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.ReferenceIdeal.Ssd
-- ==== Proof.Project.lean ====
module

public import Idealize.ShloMosaic.PureOps.Ideal
public import Idealize.ShloMosaic.Lib.Pointwise

/-! The input projections by coordinates: each token's channels, divided by their root mean square and weighted, times the
    columns of the weights. -/

@[expose] public section

noncomputable section

namespace Cert.Project

open Idealize.ShloMosaic
open scoped BigOperators

/-- The tokens, the norm's weights and the projection's weights by coordinates. -/
structure Inputs where
  h : Fin 16384 → Fin 1024 → EReal
  g : Fin 1024 → EReal
  w : Fin 1024 → Fin 2568 → EReal

/-- A token's channel over the root of the token's mean square and the norm's small constant. -/
def scaled (x : Fin 1024 → EReal) (d : Fin 1024) : EReal :=
  x d * Ideal.rsqrt (Ideal.div (∑ e, x e * x e) (Ideal.ofBits .f32 0x44800000#32) + Ideal.ofBits .f32 0x358637BD#32)

/-- A token's normalised channel. -/
def unit (I : Inputs) (t : Fin 16384) (d : Fin 1024) : EReal := scaled (I.h t) d * I.g d

/-- A token's projection on a column of the weights. -/
def col (I : Inputs) (t : Fin 16384) (k : Fin 2568) : EReal := ∑ d, unit I t d * I.w d k

/-- The lanes of the step sizes: eight columns, and zeros beyond them. -/
def steps (I : Inputs) (t : Fin 16384) (j : Fin 128) : EReal :=
  if hj : j.val < 8 then col I t ⟨1536 + j.val, by omega⟩ else 0

/-- An attention operand's lanes: for each head of 128 lanes 64 columns, the first at `o`, and zeros beyond them. -/
def heads (o : ℕ) (ho : o + 256 ≤ 2568) (I : Inputs) (t : Fin 16384) (j : Fin 512) : EReal :=
  if hj : j.val % 128 < 64 then col I t ⟨o + (j.val / 128 * 64 + j.val % 128), by omega⟩ else 0

end Cert.Project
-- ==== Proof.ProjectBlocks.lean ====
module

public import proofs.«01_k».proof.Proof.Gen.Kernel2Ideal.Value
public import proofs.«01_k».proof.Proof.Project
public import proofs.«01_k».proof.Proof.Words
public import Idealize.ShloMosaic.Lib.Pointwise
public import Idealize.ShloMosaic.Lib.Pipeline.ValueKit

/-! The blocks that the projections' operands hold at a grid point, in the arguments' coordinates. -/

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen Cert.Project
open scoped BigOperators

variable (m : (ℓ : Loc nD τ sig) → Buf (Elt Ideal) ℓ)

/-- The launch's arguments by coordinates. -/
def inputs (c : Dev nD) : Inputs where
  h t d := (m ((c : Thread nD τ).loc main_arg0) : FVec Ideal S16384x1024 .f32) (ix2 t d)
  g d := (m ((c : Thread nD τ).loc main_arg1) : FVec Ideal S1024 .f32) (ix1 d)
  w d k := (m ((c : Thread nD τ).loc main_arg2) : FVec Ideal S1024x2568 .f32) (ix2 d k)

/-! ### The operands the host prepares -/

theorem gain_at (c : Dev nD) (d : Fin 1024) : (V m c main_v27 : FVec Ideal S1x1024 .f32) (ix2 0 d) = (inputs m c).g d := by
  have e : (V m c main_v27 : FVec Ideal S1x1024 .f32) = shapeCast S1x1024 (m ((c : Thread nD τ).loc main_arg1) : FVec Ideal S1024 .f32) shapeCasts_S1024_S1x1024 := by
    entry_read
    try rfl
  rw [e]
  pointwise
  rfl

theorem w2_at (c : Dev nD) (d : Fin 1024) (j : Fin 512) :
    (V m c main_v20 : FVec Ideal S1024x512 .bf16) (ix2 d j) = (inputs m c).w d ⟨j.val, by omega⟩ := by
  have e : (V m c main_v20 : FVec Ideal S1024x512 .bf16) = truncf (F := Ideal) .bf16 (extractStridedSlice S1024x512 ![0, 0]
      (m ((c : Thread nD τ).loc main_arg2) : FVec Ideal S1024x2568 .f32) slices_S1024x2568_S1024x512_0_0) bitsLt_bf16_f32 := by
    entry_read
    try rfl
  rw [e]
  pointwise
  rfl

theorem w3_at (c : Dev nD) (d : Fin 1024) (j : Fin 1024) :
    (V m c main_v21 : FVec Ideal S1024x1024 .bf16) (ix2 d j) = (inputs m c).w d ⟨512 + j.val, by omega⟩ := by
  have e : (V m c main_v21 : FVec Ideal S1024x1024 .bf16) = truncf (F := Ideal) .bf16 (extractStridedSlice S1024x1024 ![0, 512]
      (m ((c : Thread nD τ).loc main_arg2) : FVec Ideal S1024x2568 .f32) slices_S1024x2568_S1024x1024_0_512) bitsLt_bf16_f32 := by
    entry_read
    try rfl
  rw [e]
  pointwise
  rfl

/-- The step sizes' columns in 128 lanes. -/
theorem w4_at (c : Dev nD) (d : Fin 1024) (j : Fin 128) :
    (V m c main_v22 : FVec Ideal S1024x128 .bf16) (ix2 d j) = if hj : j.val < 8 then (inputs m c).w d ⟨1536 + j.val, by omega⟩ else 0 := by
  have e : (V m c main_v22 : FVec Ideal S1024x128 .bf16) = truncf (F := Ideal) .bf16 (pad S1024x128 ![0, 0] ![0, 120] ![0, 0] (extractStridedSlice S1024x8 ![0, 1536]
      (m ((c : Thread nD τ).loc main_arg2) : FVec Ideal S1024x2568 .f32) slices_S1024x2568_S1024x8_0_1536)
      (sitofp (F := Ideal) .f32 (constantI S_ 32 0#32)) pads_S1024x8_S1024x128_000_01200 h_S_) bitsLt_bf16_f32 := by
    entry_read
    try rfl
  rw [e]
  pointwise
  by_cases hj : j.val < 8
  · rw [dif_pos hj, dif_pos hj]
    rfl
  · rw [dif_neg hj, dif_neg hj]
    exact Cert.Mixer.zero_word

/-- The columns from `o` on, each head's 64 in 128 lanes. -/
def headed (o : ℕ) (w : FVec Ideal S1024x2568 .f32) (hs : S1024x2568.Slices ![0, o] S1024x256) : FVec Ideal S1024x512 .bf16 :=
  truncf (F := Ideal) .bf16 (shapeCast S1024x512 (pad S1024x4x128 ![0, 0, 0] ![0, 0, 64] ![0, 0, 0]
    (shapeCast S1024x4x64 (extractStridedSlice S1024x256 ![0, o] w hs) shapeCasts_S1024x256_S1024x4x64)
    (sitofp (F := Ideal) .f32 (constantI S_ 32 0#32)) pads_S1024x4x64_S1024x4x128_000_000_0640 h_S_) shapeCasts_S1024x4x128_S1024x512) bitsLt_bf16_f32

theorem headed_at (o : ℕ) (ho : o + 256 ≤ 2568) (w : FVec Ideal S1024x2568 .f32) (hs : S1024x2568.Slices ![0, o] S1024x256) (d : Fin 1024) (j : Fin 512) :
    headed o w hs (ix2 d j) = if hj : j.val % 128 < 64 then w (ix2 d ⟨o + (j.val / 128 * 64 + j.val % 128), by omega⟩) else 0 := by
  pointwise [headed]
  by_cases hj : j.val % 128 < 64
  · rw [dif_pos ⟨by omega, hj⟩, dif_pos hj]
  · rw [dif_neg fun h => hj h.2, dif_neg hj]
    exact Cert.Mixer.zero_word

theorem w5_eq (c : Dev nD) : (V m c main_v23 : FVec Ideal S1024x512 .bf16)
    = headed 1544 (m ((c : Thread nD τ).loc main_arg2) : FVec Ideal S1024x2568 .f32) slices_S1024x2568_S1024x256_0_1544 := by
  unfold headed
  entry_read
  try rfl

theorem w6_eq (c : Dev nD) : (V m c main_v24 : FVec Ideal S1024x512 .bf16)
    = headed 1800 (m ((c : Thread nD τ).loc main_arg2) : FVec Ideal S1024x2568 .f32) slices_S1024x2568_S1024x256_0_1800 := by
  unfold headed
  entry_read
  try rfl

theorem w7_eq (c : Dev nD) : (V m c main_v25 : FVec Ideal S1024x512 .bf16)
    = headed 2056 (m ((c : Thread nD τ).loc main_arg2) : FVec Ideal S1024x2568 .f32) slices_S1024x2568_S1024x256_0_2056 := by
  unfold headed
  entry_read
  try rfl

theorem w8_eq (c : Dev nD) : (V m c main_v26 : FVec Ideal S1024x512 .bf16)
    = headed 2312 (m ((c : Thread nD τ).loc main_arg2) : FVec Ideal S1024x2568 .f32) slices_S1024x2568_S1024x256_0_2312 := by
  unfold headed
  entry_read
  try rfl

/-- An operand of the attention at a lane: a column, or zero beyond the head's 64. -/
theorem lane_at (c : Dev nD) (o : ℕ) (ho : o + 256 ≤ 2568) (hs : S1024x2568.Slices ![0, o] S1024x256) (d : Fin 1024) (j : Fin 512) :
    headed o (m ((c : Thread nD τ).loc main_arg2) : FVec Ideal S1024x2568 .f32) hs (ix2 d j)
      = if hj : j.val % 128 < 64 then (inputs m c).w d ⟨o + (j.val / 128 * 64 + j.val % 128), by omega⟩ else 0 :=
  headed_at o ho _ hs d j

end Cert.Kernel2Ideal.Proj
-- ==== Proof.ProjectArrays.lean ====
module

public import proofs.«01_k».proof.Proof.ProjectBlocks

/-! Each result array of the projections' launch, by coordinates. -/

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen Cert.Project
open scoped BigOperators

variable (m : (ℓ : Loc nD τ sig) → Buf (Elt Ideal) ℓ)

/-- The block that each window takes at a point: the tokens' windows move with the point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ t.val < 32 :=
  (by decide +kernel : ∀ t : Fin grid0.N, _)

/-- A token of a point's block. -/
def tok (t : Fin cfg0.N) (r : Fin 512) : Fin 16384 := ⟨t.val * 512 + r.val, by
  have := (idx t).2.2.2.2.2.2.2.2.2.2.2.2.2.2.2.2
  omega⟩

theorem blk0_at (c : Dev nD) (t : Fin cfg0.N) (r : Fin 512) (d : Fin 1024) :
    (iblk m c 0 t : FVec Ideal S512x1024 .f32) (ix2 r d) = (inputs m c).h (tok t r) d := by
  show _ = (m ((c : Thread nD τ).loc main_arg0) : FVec Ideal S16384x1024 .f32) (ix2 (tok t r) d)
  rw [← V_main_arg0 m c]
  unfold tok
  blk_ext [iblk, idx t]

theorem blk1_at (c : Dev nD) (t : Fin cfg0.N) (d : Fin 1024) : (iblk m c 1 t : FVec Ideal S1x1024 .f32) (ix2 0 d) = (inputs m c).g d := by
  rw [← gain_at m c]
  blk_ext [iblk, idx t]

theorem blk2_at (c : Dev nD) (t : Fin cfg0.N) (d : Fin 1024) (j : Fin 512) :
    (iblk m c 2 t : FVec Ideal S1024x512 .bf16) (ix2 d j) = (V m c main_v20 : FVec Ideal S1024x512 .bf16) (ix2 d j) := by
  blk_ext [iblk, idx t]

theorem blk3_at (c : Dev nD) (t : Fin cfg0.N) (d : Fin 1024) (j : Fin 1024) :
    (iblk m c 3 t : FVec Ideal S1024x1024 .bf16) (ix2 d j) = (V m c main_v21 : FVec Ideal S1024x1024 .bf16) (ix2 d j) := by
  blk_ext [iblk, idx t]

theorem blk4_at (c : Dev nD) (t : Fin cfg0.N) (d : Fin 1024) (j : Fin 128) :
    (iblk m c 4 t : FVec Ideal S1024x128 .bf16) (ix2 d j) = (V m c main_v22 : FVec Ideal S1024x128 .bf16) (ix2 d j) := by
  blk_ext [iblk, idx t]

theorem blk5_at (c : Dev nD) (t : Fin cfg0.N) (d : Fin 1024) (j : Fin 512) :
    (iblk m c 5 t : FVec Ideal S1024x512 .bf16) (ix2 d j) = (V m c main_v23 : FVec Ideal S1024x512 .bf16) (ix2 d j) := by
  blk_ext [iblk, idx t]

theorem blk6_at (c : Dev nD) (t : Fin cfg0.N) (d : Fin 1024) (j : Fin 512) :
    (iblk m c 6 t : FVec Ideal S1024x512 .bf16) (ix2 d j) = (V m c main_v24 : FVec Ideal S1024x512 .bf16) (ix2 d j) := by
  blk_ext [iblk, idx t]

theorem blk7_at (c : Dev nD) (t : Fin cfg0.N) (d : Fin 1024) (j : Fin 512) :
    (iblk m c 7 t : FVec Ideal S1024x512 .bf16) (ix2 d j) = (V m c main_v25 : FVec Ideal S1024x512 .bf16) (ix2 d j) := by
  blk_ext [iblk, idx t]

theorem blk8_at (c : Dev nD) (t : Fin cfg0.N) (d : Fin 1024) (j : Fin 512) :
    (iblk m c 8 t : FVec Ideal S1024x512 .bf16) (ix2 d j) = (V m c main_v26 : FVec Ideal S1024x512 .bf16) (ix2 d j) := by
  blk_ext [iblk, idx t]

/-! ### The body -/

/-- The normalised block. -/
theorem unit_form (x : Vec Ideal S512x1024 .f32) (g : Vec Ideal S1x1024 .f32) (r : Fin 512) (d : Fin 1024) :
    k0_pay4 (F := Ideal) x g (ix2 r d) = scaled (fun e => x (ix2 r e)) d * g (ix2 0 d) := by
  unfold scaled
  pointwise [k0_pay4]

/-- The normalised block at a point. -/
theorem unit_at (c : Dev nD) (t : Fin cfg0.N) (r : Fin 512) (d : Fin 1024) :
    k0_pay4 (F := Ideal) (iblk m c 0 t) (iblk m c 1 t) (ix2 r d) = unit (inputs m c) (tok t r) d := by
  rw [unit_form, blk1_at]
  unfold unit
  rw [show (fun e => (iblk m c 0 t : FVec Ideal S512x1024 .f32) (ix2 r e)) = (inputs m c).h (tok t r) from funext (blk0_at m c t r)]

theorem dot512 (x : FVec Ideal S512x1024 .bf16) (w : Vec Ideal S1024x512 .bf16) (r : Fin 512) (j : Fin 512) :
    k0_pay1 (F := Ideal) x w (ix2 r j) = ∑ d, x (ix2 r d) * w (ix2 d j) := by
  pointwise [k0_pay1]

theorem dotB (x : FVec Ideal S512x1024 .bf16) (w : Vec Ideal S1024x512 .bf16) (r : Fin 512) (j : Fin 512) :
    k0_pay2 (F := Ideal) x w (ix2 r j) = ∑ d, x (ix2 r d) * w (ix2 d j) := by
  pointwise [k0_pay2]

theorem dotC (x : FVec Ideal S512x1024 .bf16) (w : Vec Ideal S1024x512 .bf16) (r : Fin 512) (j : Fin 512) :
    k0_pay3 (F := Ideal) x w (ix2 r j) = ∑ d, x (ix2 r d) * w (ix2 d j) := by
  pointwise [k0_pay3]

theorem dot512' (x : Vec Ideal S512x1024 .f32) (g : Vec Ideal S1x1024 .f32) (w : Vec Ideal S1024x512 .bf16) (r : Fin 512) (j : Fin 512) :
    k0_pay5 (F := Ideal) x g w (ix2 r j) = ∑ d, k0_pay4 (F := Ideal) x g (ix2 r d) * w (ix2 d j) := by
  pointwise [k0_pay5]

theorem dotA' (x : Vec Ideal S512x1024 .f32) (g : Vec Ideal S1x1024 .f32) (w : Vec Ideal S1024x512 .bf16) (r : Fin 512) (j : Fin 512) :
    k0_pay8 (F := Ideal) x g w (ix2 r j) = ∑ d, k0_pay4 (F := Ideal) x g (ix2 r d) * w (ix2 d j) := by
  pointwise [k0_pay8]

theorem dot1024 (x : Vec Ideal S512x1024 .f32) (g : Vec Ideal S1x1024 .f32) (w : Vec Ideal S1024x1024 .bf16) (r : Fin 512) (j : Fin 1024) :
    k0_pay6 (F := Ideal) x g w (ix2 r j) = ∑ d, k0_pay4 (F := Ideal) x g (ix2 r d) * w (ix2 d j) := by
  pointwise [k0_pay6]

theorem dot128 (x : Vec Ideal S512x1024 .f32) (g : Vec Ideal S1x1024 .f32) (w : Vec Ideal S1024x128 .bf16) (r : Fin 512) (j : Fin 128) :
    k0_pay7 (F := Ideal) x g w (ix2 r j) = ∑ d, k0_pay4 (F := Ideal) x g (ix2 r d) * w (ix2 d j) := by
  pointwise [k0_pay7]

/-- The normalised block that the last three products share. -/
theorem k0_pay9_eq (c : Dev nD) (t : Fin cfg0.N) :
    k0_pay9 (F := Ideal) (iblk m c 0 t) (iblk m c 1 t) (iblk m c 2 t) (iblk m c 3 t) (iblk m c 4 t) (iblk m c 5 t) (iblk m c 6 t) (iblk m c 7 t) (iblk m c 8 t)
      = k0_pay4 (F := Ideal) (iblk m c 0 t) (iblk m c 1 t) := by
  unfold k0_pay9
  frame_out
  try rfl

/-- A normalised block times a padded column: the projection on the column, or zero. -/
theorem padded_sum (I : Inputs) (t : Fin 16384) (p : Prop) [Decidable p] (k : p → Fin 2568) :
    (∑ d, unit I t d * (if h : p then I.w d (k h) else 0)) = if h : p then col I t (k h) else 0 := by
  by_cases h : p
  · simp only [dif_pos h]
    rfl
  · simp only [dif_neg h, mul_zero, Finset.sum_const_zero]

/-! ### The arrays -/

/-- The gate's columns. -/
def gates (I : Inputs) : FVec Ideal S16384x512 .f32 := fun x => col I (x 0) ⟨(x 1).val, by have := (x 1).isLt; change (x 1).val < 512 at this; omega⟩

/-- The recurrence's columns. -/
def mixed (I : Inputs) : FVec Ideal S16384x1024 .f32 := fun x => col I (x 0) ⟨512 + (x 1).val, by have := (x 1).isLt; change (x 1).val < 1024 at this; omega⟩

/-- The step sizes' lanes. -/
def stepLanes (I : Inputs) : FVec Ideal S16384x128 .f32 := fun x => steps I (x 0) (x 1)

/-- The lanes of an operand of the attention, its columns from `o` on. -/
def lanes (o : ℕ) (ho : o + 256 ≤ 2568) (I : Inputs) : FVec Ideal S16384x512 .f32 := fun x => heads o ho I (x 0) (x 1)

/-- The queries' lanes. -/
def queries (I : Inputs) : FVec Ideal S16384x512 .f32 := lanes 1544 (by decide) I

/-- The keys' lanes. -/
def keys (I : Inputs) : FVec Ideal S16384x512 .f32 := lanes 1800 (by decide) I

/-- The values' lanes. -/
def values (I : Inputs) : FVec Ideal S16384x512 .f32 := lanes 2056 (by decide) I

/-- The memory queries' lanes. -/
def reads (I : Inputs) : FVec Ideal S16384x512 .f32 := lanes 2312 (by decide) I

theorem array9 (c : Dev nD) : (dats m 0 c).arrAt 9 cfg0.N = gates (inputs m c) := by
  refine (dats m 0 c).arrAt_eq_of_covers 9 _ (by decide +kernel) fun t hf y => ?_
  blk_simp
  rw [after0_9]
  frame_out
  obtain ⟨r, j, rfl⟩ : ∃ r j, y = ix2 r j := ⟨y 0, y 1, eq_ix2 y⟩
  have e : gates (inputs m c) (((cfg0.win 9).blk t).view.emb (ix2 r j)) = gates (inputs m c) (ix2 (tok t r) j) := by
    unfold tok
    blk_ext [idx t]
  refine Eq.trans ?_ e.symm
  refine (dot512' _ _ _ r j).trans ?_
  refine (Finset.sum_congr rfl fun d _ => by
    rw [unit_at, blk2_at, w2_at]).trans ?_
  rfl

theorem array10 (c : Dev nD) : (dats m 0 c).arrAt 10 cfg0.N = mixed (inputs m c) := by
  refine (dats m 0 c).arrAt_eq_of_covers 10 _ (by decide +kernel) fun t hf y => ?_
  blk_simp
  rw [after0_10]
  frame_out
  obtain ⟨r, j, rfl⟩ : ∃ r j, y = ix2 r j := ⟨y 0, y 1, eq_ix2 y⟩
  have e : mixed (inputs m c) (((cfg0.win 10).blk t).view.emb (ix2 r j)) = mixed (inputs m c) (ix2 (tok t r) j) := by
    unfold tok
    blk_ext [idx t]
  refine Eq.trans ?_ e.symm
  refine (dot1024 _ _ _ r j).trans ?_
  refine (Finset.sum_congr rfl fun d _ => by
    rw [unit_at, blk3_at, w3_at]).trans ?_
  rfl

theorem array11 (c : Dev nD) : (dats m 0 c).arrAt 11 cfg0.N = stepLanes (inputs m c) := by
  refine (dats m 0 c).arrAt_eq_of_covers 11 _ (by decide +kernel) fun t hf y => ?_
  blk_simp
  rw [after0_11]
  frame_out
  obtain ⟨r, j, rfl⟩ : ∃ r j, y = ix2 r j := ⟨y 0, y 1, eq_ix2 y⟩
  have e : stepLanes (inputs m c) (((cfg0.win 11).blk t).view.emb (ix2 r j)) = stepLanes (inputs m c) (ix2 (tok t r) j) := by
    unfold tok
    blk_ext [idx t]
  refine Eq.trans ?_ e.symm
  refine (dot128 _ _ _ r j).trans ?_
  refine (Finset.sum_congr rfl fun d _ => by
    rw [unit_at, blk4_at, w4_at]).trans ?_
  exact padded_sum (inputs m c) (tok t r) _ _

theorem array12 (c : Dev nD) : (dats m 0 c).arrAt 12 cfg0.N = queries (inputs m c) := by
  refine (dats m 0 c).arrAt_eq_of_covers 12 _ (by decide +kernel) fun t hf y => ?_
  blk_simp
  rw [after0_12]
  frame_out
  obtain ⟨r, j, rfl⟩ : ∃ r j, y = ix2 r j := ⟨y 0, y 1, eq_ix2 y⟩
  have e : queries (inputs m c) (((cfg0.win 12).blk t).view.emb (ix2 r j)) = queries (inputs m c) (ix2 (tok t r) j) := by
    unfold tok
    blk_ext [idx t]
  refine Eq.trans ?_ e.symm
  refine (dotA' _ _ _ r j).trans ?_
  refine (Finset.sum_congr rfl fun d _ => by
    rw [unit_at, blk5_at, w5_eq m c, lane_at m c 1544 (by decide)]).trans ?_
  exact padded_sum (inputs m c) (tok t r) _ _

theorem array13 (c : Dev nD) : (dats m 0 c).arrAt 13 cfg0.N = keys (inputs m c) := by
  refine (dats m 0 c).arrAt_eq_of_covers 13 _ (by decide +kernel) fun t hf y => ?_
  blk_simp
  rw [after0_13]
  frame_out
  obtain ⟨r, j, rfl⟩ : ∃ r j, y = ix2 r j := ⟨y 0, y 1, eq_ix2 y⟩
  have e : keys (inputs m c) (((cfg0.win 13).blk t).view.emb (ix2 r j)) = keys (inputs m c) (ix2 (tok t r) j) := by
    unfold tok
    blk_ext [idx t]
  refine Eq.trans ?_ e.symm
  refine (dot512 _ _ r j).trans ?_
  refine (Finset.sum_congr rfl fun d _ => by
    rw [k0_pay9_eq, unit_at, blk6_at, w6_eq m c, lane_at m c 1800 (by decide)]).trans ?_
  exact padded_sum (inputs m c) (tok t r) _ _

theorem array14 (c : Dev nD) : (dats m 0 c).arrAt 14 cfg0.N = values (inputs m c) := by
  refine (dats m 0 c).arrAt_eq_of_covers 14 _ (by decide +kernel) fun t hf y => ?_
  blk_simp
  rw [after0_14]
  frame_out
  obtain ⟨r, j, rfl⟩ : ∃ r j, y = ix2 r j := ⟨y 0, y 1, eq_ix2 y⟩
  have e : values (inputs m c) (((cfg0.win 14).blk t).view.emb (ix2 r j)) = values (inputs m c) (ix2 (tok t r) j) := by
    unfold tok
    blk_ext [idx t]
  refine Eq.trans ?_ e.symm
  refine (dotB _ _ r j).trans ?_
  refine (Finset.sum_congr rfl fun d _ => by
    rw [k0_pay9_eq, unit_at, blk7_at, w7_eq m c, lane_at m c 2056 (by decide)]).trans ?_
  exact padded_sum (inputs m c) (tok t r) _ _

theorem array15 (c : Dev nD) : (dats m 0 c).arrAt 15 cfg0.N = reads (inputs m c) := by
  refine (dats m 0 c).arrAt_eq_of_covers 15 _ (by decide +kernel) fun t hf y => ?_
  blk_simp
  rw [after0_15]
  frame_out
  obtain ⟨r, j, rfl⟩ : ∃ r j, y = ix2 r j := ⟨y 0, y 1, eq_ix2 y⟩
  have e : reads (inputs m c) (((cfg0.win 15).blk t).view.emb (ix2 r j)) = reads (inputs m c) (ix2 (tok t r) j) := by
    unfold tok
    blk_ext [idx t]
  refine Eq.trans ?_ e.symm
  refine (dotC _ _ r j).trans ?_
  refine (Finset.sum_congr rfl fun d _ => by
    rw [k0_pay9_eq, unit_at, blk8_at, w8_eq m c, lane_at m c 2312 (by decide)]).trans ?_
  exact padded_sum (inputs m c) (tok t r) _ _

end Cert.Kernel2Ideal.Proj
-- ==== Proof.ProjectReference.lean ====
module

public import proofs.«01_k».proof.Proof.Gen.Reference2Ideal.Run
public import proofs.«01_k».proof.Proof.ProjectArrays

/-! The reference's results are the projections by coordinates. -/

@[expose] public section

set_option maxRecDepth 16384

noncomputable section

namespace Cert.Reference2Ideal.Proj

open Idealize.ShloMosaic Idealize.ShloMosaic.TcCoe Idealize.SL.Sem
open Cert.Reference2Ideal Cert.Reference2Ideal.Gen Cert.Project
open scoped BigOperators

/-- The reference's arguments by coordinates. -/
def inputs (h : FVec Ideal S16384x1024 .f32) (g : FVec Ideal S1024 .f32) (w : FVec Ideal S1024x2568 .f32) : Inputs where
  h t d := h (ix2 t d)
  g d := g (ix1 d)
  w d k := w (ix2 d k)

/-- Each token's mean square. -/
def means (h : FVec Ideal S16384x1024 .f32) : FVec Ideal S16384x1 .f32 :=
  Host.divf (broadcastInDim S16384x1 ![0] bcast_S16384_S16384x1_0 (Host.reduceAdd (mulf h h) (constant S_ .f32 0x00000000#32) reducesTo_S16384x1024_S16384_d1 h_S_))
    (broadcastInDim S16384x1 ![] bcast_S_S16384x1 (constant S_ .f32 0x44800000#32))

/-- The normalised tokens. -/
def normed (h : FVec Ideal S16384x1024 .f32) (g : FVec Ideal S1024 .f32) : FVec Ideal S16384x1024 .f32 :=
  mulf (mulf h (broadcastInDim S16384x1024 ![0, 1] bcast_S16384x1_S16384x1024_0_1
      (Host.rsqrt (addf (means h) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The tokens times all the columns. -/
def projected (h : FVec Ideal S16384x1024 .f32) (g : FVec Ideal S1024 .f32) (w : FVec Ideal S1024x2568 .f32) : FVec Ideal S16384x2568 .f32 :=
  Host.dotGeneral dot_S16384x1024_S1024x2568_S16384x2568_1_0_0_1_n_n none (normed h g) w

/-- The step sizes' columns with zeros beyond them. -/
def widened (p : FVec Ideal S16384x2568 .f32) : FVec Ideal S16384x128 .f32 :=
  concatenate S16384x128 1 [⟨S16384x8, (extractStridedSlice S16384x8 ![0, 1536] p slices_S16384x2568_S16384x8_0_1536)⟩,
    ⟨S16384x120, (broadcastInDim S16384x120 ![] bcast_S_S16384x120 (constant S_ .f32 0x00000000#32))⟩] concatenates_S16384x8_S16384x120_S16384x128_d1

/-- The columns from `o` on with zeros beyond each head's. -/
def spread (o : ℕ) (hs : S16384x2568.Slices ![0, o] S16384x256) (p : FVec Ideal S16384x2568 .f32) : FVec Ideal S16384x512 .f32 :=
  shapeCast _ (concatenate S16384x4x128 2 [⟨S16384x4x64, (shapeCast _ (extractStridedSlice S16384x256 ![0, o] p hs) shapeCasts_S16384x256_S16384x4x64)⟩,
    ⟨S16384x4x64, (broadcastInDim S16384x4x64 ![] bcast_S_S16384x4x64 (constant S_ .f32 0x00000000#32))⟩] concatenates_S16384x4x64_S16384x4x64_S16384x4x128_d2) shapeCasts_S16384x4x128_S16384x512

variable (h : FVec Ideal S16384x1024 .f32) (g : FVec Ideal S1024 .f32) (w : FVec Ideal S1024x2568 .f32)

theorem normed_at (t : Fin 16384) (d : Fin 1024) : normed h g (ix2 t d) = unit (inputs h g w) t d := by
  unfold unit scaled
  pointwise [normed, means]
  rfl

theorem projected_at (t : Fin 16384) (k : Fin 2568) : projected h g w (ix2 t k) = col (inputs h g w) t k := by
  have e : projected h g w (ix2 t k) = ∑ d, normed h g (ix2 t d) * w (ix2 d k) := by
    pointwise [projected]
  rw [e]
  exact Finset.sum_congr rfl fun d _ => by rw [normed_at h g w]; rfl

theorem widened_at (t : Fin 16384) (j : Fin 128) : widened (projected h g w) (ix2 t j) = steps (inputs h g w) t j := by
  pointwise [widened]
  simp only [projected_at h g w]
  rfl

theorem spread_at (o : ℕ) (ho : o + 256 ≤ 2568) (hs : S16384x2568.Slices ![0, o] S16384x256) (t : Fin 16384) (j : Fin 512) :
    spread o hs (projected h g w) (ix2 t j) = heads o ho (inputs h g w) t j := by
  pointwise [spread]
  simp only [projected_at h g w]
  rfl

/-! ### The results -/

open Cert.Kernel2Ideal.Proj (gates mixed stepLanes lanes)

theorem gates_eq : extractStridedSlice S16384x512 ![0, 0] (projected h g w) slices_S16384x2568_S16384x512_0_0 = gates (inputs h g w) := by
  funext x
  obtain ⟨t, j, rfl⟩ : ∃ t j, x = ix2 t j := ⟨x 0, x 1, eq_ix2 x⟩
  pointwise
  simp only [projected_at h g w]
  rfl

theorem mixed_eq : extractStridedSlice S16384x1024 ![0, 512] (projected h g w) slices_S16384x2568_S16384x1024_0_512 = mixed (inputs h g w) := by
  funext x
  obtain ⟨t, j, rfl⟩ : ∃ t j, x = ix2 t j := ⟨x 0, x 1, eq_ix2 x⟩
  pointwise
  simp only [projected_at h g w]
  rfl

theorem widened_eq : widened (projected h g w) = stepLanes (inputs h g w) := by
  funext x
  obtain ⟨t, j, rfl⟩ : ∃ t j, x = ix2 t j := ⟨x 0, x 1, eq_ix2 x⟩
  exact widened_at h g w t j

theorem spread_eq (o : ℕ) (ho : o + 256 ≤ 2568) (hs : S16384x2568.Slices ![0, o] S16384x256) :
    spread o hs (projected h g w) = lanes o ho (inputs h g w) := by
  funext x
  obtain ⟨t, j, rfl⟩ : ∃ t j, x = ix2 t j := ⟨x 0, x 1, eq_ix2 x⟩
  exact spread_at h g w o ho hs t j

end Cert.Reference2Ideal.Proj
-- ==== Proof.ProjectValue.lean ====
module

public import proofs.«01_k».proof.Defs
public import proofs.«01_k».proof.Proof.ProjectReference
public import Idealize.ShloMosaic.Adequacy
public import Idealize.ShloMosaic.Init

/-! The launch of the projections and its reference end with the same seven results. -/

@[expose] public section

set_option maxRecDepth 16384

noncomputable section

namespace Cert.Proof

open Idealize.ShloMosaic Idealize.ShloMosaic.TcCoe Idealize.SL.Sem
open Cert.Kernel2Ideal.Proj

theorem projections : algebraic_Kernel2Ideal_Reference2Ideal := by
  intro m g m' g' _ hagree
  refine ⟨fun c => gates (inputs m c), fun c => mixed (inputs m c), fun c => stepLanes (inputs m c), fun c => queries (inputs m c),
    fun c => keys (inputs m c), fun c => values (inputs m c), fun c => reads (inputs m c), ?_, ?_⟩
  · refine (θ_run Cert.Kernel2Ideal.defs _ _).mono (fun _ h c => ?_) (Cert.Kernel2Ideal.Value.run_blocks (F := Ideal) m g)
    obtain ⟨h9, h10, h11, h12, h13, h14, h15, ha⟩ := h c
    exact ⟨h9.trans (array9 m c), h10.trans (array10 m c), h11.trans (array11 m c), h12.trans (array12 m c), h13.trans (array13 m c),
      h14.trans (array14 m c), h15.trans (array15 m c), ha⟩
  · refine (θ_run Cert.Reference2Ideal.defs _ _).mono (fun _ h c => ?_) (Cert.Reference2Ideal.Value.run (F := Ideal) m' g')
    obtain ⟨e0, e1, e2⟩ := hagree c
    obtain ⟨h9, h10, h11, h12, h13, h14, h15, ha⟩ := h c
    have ei : Cert.Reference2Ideal.Proj.inputs (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2)) = inputs m c := by
      rw [e0, e1, e2]
      rfl
    refine ⟨h9.trans ?_, h10.trans ?_, h11.trans ?_, h12.trans ?_, h13.trans ?_, h14.trans ?_, h15.trans ?_, ha⟩
    · exact (Cert.Reference2Ideal.Proj.gates_eq _ _ _).trans (congrArg gates ei)
    · exact (Cert.Reference2Ideal.Proj.mixed_eq _ _ _).trans (congrArg mixed ei)
    · exact (Cert.Reference2Ideal.Proj.widened_eq _ _ _).trans (congrArg stepLanes ei)
    · exact (Cert.Reference2Ideal.Proj.spread_eq _ _ _ 1544 (by decide) _).trans (congrArg queries ei)
    · exact (Cert.Reference2Ideal.Proj.spread_eq _ _ _ 1800 (by decide) _).trans (congrArg keys ei)
    · exact (Cert.Reference2Ideal.Proj.spread_eq _ _ _ 2056 (by decide) _).trans (congrArg values ei)
    · exact (Cert.Reference2Ideal.Proj.spread_eq _ _ _ 2312 (by decide) _).trans (congrArg reads ei)

end Cert.Proof
-- ==== Proof.Kernel3IdealHeads.lean ====
/- The loops over the heads in `Kernel3Ideal`'s body: each writes its head's slab of the four selection results and the two
   lists of greatest scores, reading the queries and the two key tables. Nothing is named of what they leave. -/
module

public import proofs.«01_k».proof.Proof.Gen.Kernel3Ideal.Loops

@[expose] public section

set_option maxRecDepth 16384

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

set_option maxHeartbeats 4000000 in
set_option warn.classDefReducibility false in
/-- The loop over the heads of half 0 of the block's tokens. -/
@[sl_loop] def heads_t1 (𝒱 : Variants) (c : Dev nD) (bd : Option 𝒱.V) (E : Set ℕ) (i : grid0.Coords) (arg1 : Memref sig .tc .vmem S256x1024 .f32) (harg1 : arg1.IsWhole) (arg2 : Memref sig .tc .vmem S256x512 .bf16) (harg2 : arg2.IsWhole) (arg3 : Memref sig .tc .vmem S1x4x256x64 .f32) (harg3 : arg3.IsWhole) (arg4 : Memref sig .tc .vmem S1x4x256x64 .f32) (harg4 : arg4.IsWhole) (arg5 : Memref sig .tc .vmem S512x1024 .bf16) (harg5 : arg5.IsWhole) (arg6 : Memref sig .tc .vmem S4x64x1024 .bf16) (harg6 : arg6.IsWhole) (arg7 : Memref sig .tc .vmem S4x64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x64 .f32) (harg10 : arg10.IsWhole) (arg11 : Memref sig .tc .vmem S128x64 .f32) (harg11 : arg11.IsWhole) (arg12 : Memref sig .tc .vmem S72x128 .i32) (harg12 : arg12.IsWhole) (arg13 : Memref sig .tc .vmem S72x128 .f32) (harg13 : arg13.IsWhole) (arg14 : Memref sig .tc .vmem S256x1024 .f32) (harg14 : arg14.IsWhole) (arg15 : Memref sig .tc .vmem S1024x256 .bf16) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .f32) (harg19 : arg19.IsWhole) (arg20 : Memref sig .tc .vmem S1024x256 .f32) (harg20 : arg20.IsWhole) (arg21 : Memref sig .tc .vmem S16x128 .f32) (harg21 : arg21.IsWhole) (arg22 : Memref sig .tc .vmem S16x128 .f32) (harg22 : arg22.IsWhole) (v86 : Vec F S72x128 .i32) (v87 : Vec F S72x128 .f32) (v88 : IVec S16x128 32) (x10 : BufTy.Contents (Elt F) arg10.view.ty) (x11 : BufTy.Contents (Elt F) arg11.view.ty) (x20 : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v86 v87 v88 where
  inv _ _ := iprop((arg10.view.loc (c : Thread nD τ) ↦[arg10.view.set]{fullShare} x10) ∗ (arg11.view.loc (c : Thread nD τ) ↦[arg11.view.set]{fullShare} x11) ∗ (arg20.view.loc (c : Thread nD τ) ↦[arg20.view.set]{fullShare} x20) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)))
  step k acc := by
    have hk : k.val < 8 := Nat.lt_of_lt_of_le k.isLt k0_t1_abs.2.1
    iintro ⟨H10, H11, H20, ⟨%f16, H16⟩, ⟨%f17, H17⟩, ⟨%f18, H18⟩, ⟨%f19, H19⟩, ⟨%f21, H21⟩, ⟨%f22, H22⟩⟩
    unfold k0_t1_body
    simp only [k0_part1_eq_skeleton, k0_part2_eq_skeleton, k0_part3_eq_skeleton, k0_part4_eq_skeleton]
    sl_exec
    sl_step
    isplitl [H10]; · iexact H10
    isplitl [H11]; · iexact H11
    isplitl [H20]; · iexact H20
    isplitl [H16]; · iexists _; iexact H16
    isplitl [H17]; · iexists _; iexact H17
    isplitl [H18]; · iexists _; iexact H18
    isplitl [H19]; · iexists _; iexact H19
    isplitl [H21]; · iexists _; iexact H21
    iexists _; iexact H22

set_option maxHeartbeats 4000000 in
set_option warn.classDefReducibility false in
/-- The loop over the heads of half 1 of the block's tokens. -/
@[sl_loop] def heads_t5 (𝒱 : Variants) (c : Dev nD) (bd : Option 𝒱.V) (E : Set ℕ) (i : grid0.Coords) (arg1 : Memref sig .tc .vmem S256x1024 .f32) (harg1 : arg1.IsWhole) (arg2 : Memref sig .tc .vmem S256x512 .bf16) (harg2 : arg2.IsWhole) (arg3 : Memref sig .tc .vmem S1x4x256x64 .f32) (harg3 : arg3.IsWhole) (arg4 : Memref sig .tc .vmem S1x4x256x64 .f32) (harg4 : arg4.IsWhole) (arg5 : Memref sig .tc .vmem S512x1024 .bf16) (harg5 : arg5.IsWhole) (arg6 : Memref sig .tc .vmem S4x64x1024 .bf16) (harg6 : arg6.IsWhole) (arg7 : Memref sig .tc .vmem S4x64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x64 .f32) (harg10 : arg10.IsWhole) (arg11 : Memref sig .tc .vmem S128x64 .f32) (harg11 : arg11.IsWhole) (arg12 : Memref sig .tc .vmem S72x128 .i32) (harg12 : arg12.IsWhole) (arg13 : Memref sig .tc .vmem S72x128 .f32) (harg13 : arg13.IsWhole) (arg14 : Memref sig .tc .vmem S256x1024 .f32) (harg14 : arg14.IsWhole) (arg15 : Memref sig .tc .vmem S1024x256 .bf16) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .f32) (harg19 : arg19.IsWhole) (arg20 : Memref sig .tc .vmem S1024x256 .f32) (harg20 : arg20.IsWhole) (arg21 : Memref sig .tc .vmem S16x128 .f32) (harg21 : arg21.IsWhole) (arg22 : Memref sig .tc .vmem S16x128 .f32) (harg22 : arg22.IsWhole) (v86 : Vec F S72x128 .i32) (v87 : Vec F S72x128 .f32) (v88 : IVec S16x128 32) (x10 : BufTy.Contents (Elt F) arg10.view.ty) (x11 : BufTy.Contents (Elt F) arg11.view.ty) (x20 : BufTy.Contents (Elt F) arg20.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v86 v87 v88 where
  inv _ _ := iprop((arg10.view.loc (c : Thread nD τ) ↦[arg10.view.set]{fullShare} x10) ∗ (arg11.view.loc (c : Thread nD τ) ↦[arg11.view.set]{fullShare} x11) ∗ (arg20.view.loc (c : Thread nD τ) ↦[arg20.view.set]{fullShare} x20) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)))
  step k acc := by
    have hk : k.val < 8 := Nat.lt_of_lt_of_le k.isLt k0_t5_abs.2.1
    iintro ⟨H10, H11, H20, ⟨%f16, H16⟩, ⟨%f17, H17⟩, ⟨%f18, H18⟩, ⟨%f19, H19⟩, ⟨%f21, H21⟩, ⟨%f22, H22⟩⟩
    unfold k0_t5_body
    simp only [k0_part5_eq_skeleton, k0_part6_eq_skeleton, k0_part7_eq_skeleton, k0_part8_eq_skeleton]
    sl_exec
    sl_step
    isplitl [H10]; · iexact H10
    isplitl [H11]; · iexact H11
    isplitl [H20]; · iexact H20
    isplitl [H16]; · iexists _; iexact H16
    isplitl [H17]; · iexists _; iexact H17
    isplitl [H18]; · iexists _; iexact H18
    isplitl [H19]; · iexists _; iexact H19
    isplitl [H21]; · iexists _; iexact H21
    iexists _; iexact H22

end Cert.Kernel3Ideal

end
-- ==== Proof.Kernel3IdealRun.lean ====
/- What one run of `Kernel3Ideal`'s body leaves: the stream and its normalised transpose by the stores' pieces, the
   selection results and the scratch at some contents. -/
module

public import proofs.«01_k».proof.Proof.Kernel3IdealHeads
public import proofs.«01_k».proof.Proof.Gen.Kernel3Ideal.Frame
public import proofs.«01_k».proof.Proof.Gen.Kernel3Ideal.Skeleton

@[expose] public section

set_option maxRecDepth 16384

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Gen

variable {F : FTy → Type} [FloatOps F]

local notation "𝕄" => MT nD τ sig Unit (Elt F) ℕ (UR sig nD τ) ℕ

variable (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S1x4x256x64 .f32) (harg3 : arg3.IsWhole) (arg4 : Memref sig .tc .vmem S1x4x256x64 .f32) (harg4 : arg4.IsWhole) (arg5 : Memref sig .tc .vmem S512x1024 .bf16) (harg5 : arg5.IsWhole) (arg6 : Memref sig .tc .vmem S4x64x1024 .bf16) (harg6 : arg6.IsWhole) (arg7 : Memref sig .tc .vmem S4x64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x64 .f32) (harg10 : arg10.IsWhole) (arg11 : Memref sig .tc .vmem S128x64 .f32) (harg11 : arg11.IsWhole) (arg12 : Memref sig .tc .vmem S72x128 .i32) (harg12 : arg12.IsWhole) (arg13 : Memref sig .tc .vmem S72x128 .f32) (harg13 : arg13.IsWhole) (arg14 : Memref sig .tc .vmem S256x1024 .f32) (harg14 : arg14.IsWhole) (arg15 : Memref sig .tc .vmem S1024x256 .bf16) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .f32) (harg19 : arg19.IsWhole) (arg20 : Memref sig .tc .vmem S1024x256 .f32) (harg20 : arg20.IsWhole) (arg21 : Memref sig .tc .vmem S16x128 .f32) (harg21 : arg21.IsWhole) (arg22 : Memref sig .tc .vmem S16x128 .f32) (harg22 : arg22.IsWhole)

set_option maxHeartbeats 4000000 in
/-- One run of the body on whole memrefs. -/
def run (x0 : Vec F S256x1024 .f32) (x1 : Vec F S256x512 .bf16) (x2 : Vec F S1x4x256x64 .f32) (x3 : Vec F S1x4x256x64 .f32) (x4 : Vec F S512x1024 .bf16) (x5 : Vec F S4x64x1024 .bf16) (x6 : Vec F S4x64x1024 .bf16) (x7 : Vec F S1x1024 .f32) (x8 : Vec F S1024x1024 .bf16) (x9 : Vec F S128x64 .f32) (x10 : Vec F S128x64 .f32) (x11 : Vec F S72x128 .i32) (x12 : Vec F S72x128 .f32) :
    Σ' (L13 : List (View.Piece (Elt F) S256x1024 .f32)), { L14 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_peer_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_peer_prep_eq_skeleton]; unfold cc0_peer_prep_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Kernel3Ideal

end
-- ==== Proof.Kernel3IdealFrame.lean ====
/- The launch of `Kernel3Ideal`: its frame, and the stream and its normalised transpose at what the body leaves. -/
module

public import proofs.«01_k».proof.Proof.Kernel3IdealRun
public import proofs.«01_k».proof.Proof.Gen.Kernel3Ideal.Frame

@[expose] public section

set_option maxRecDepth 16384

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Outputs

variable (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S1x4x256x64 .f32) (harg3 : arg3.IsWhole) (arg4 : Memref sig .tc .vmem S1x4x256x64 .f32) (harg4 : arg4.IsWhole) (arg5 : Memref sig .tc .vmem S512x1024 .bf16) (harg5 : arg5.IsWhole) (arg6 : Memref sig .tc .vmem S4x64x1024 .bf16) (harg6 : arg6.IsWhole) (arg7 : Memref sig .tc .vmem S4x64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x64 .f32) (harg10 : arg10.IsWhole) (arg11 : Memref sig .tc .vmem S128x64 .f32) (harg11 : arg11.IsWhole) (arg12 : Memref sig .tc .vmem S72x128 .i32) (harg12 : arg12.IsWhole) (arg13 : Memref sig .tc .vmem S72x128 .f32) (harg13 : arg13.IsWhole) (arg14 : Memref sig .tc .vmem S256x1024 .f32) (harg14 : arg14.IsWhole) (arg15 : Memref sig .tc .vmem S1024x256 .bf16) (harg15 : arg15.IsWhole) (arg16 : Memref sig .tc .vmem S8x128x256 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .f32) (harg19 : arg19.IsWhole) (arg20 : Memref sig .tc .vmem S1024x256 .f32) (harg20 : arg20.IsWhole) (arg21 : Memref sig .tc .vmem S16x128 .f32) (harg21 : arg21.IsWhole) (arg22 : Memref sig .tc .vmem S16x128 .f32) (harg22 : arg22.IsWhole) (x0 : Vec F S256x1024 .f32) (x1 : Vec F S256x512 .bf16) (x2 : Vec F S1x4x256x64 .f32) (x3 : Vec F S1x4x256x64 .f32) (x4 : Vec F S512x1024 .bf16) (x5 : Vec F S4x64x1024 .bf16) (x6 : Vec F S4x64x1024 .bf16) (x7 : Vec F S1x1024 .f32) (x8 : Vec F S1024x1024 .bf16) (x9 : Vec F S128x64 .f32) (x10 : Vec F S128x64 .f32) (x11 : Vec F S72x128 .i32) (x12 : Vec F S72x128 .f32)

theorem cover13 (y : S256x1024.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1 S256x1024.size (by sl_kernel_rfl) y

theorem cover14 (y : S1024x256.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1 S1024x256.size (by sl_kernel_rfl) y

end Outputs

/-- A whole buffer of the stream's block, and of its transpose. -/
abbrev viewH : View sig .tc .vmem S256x1024 .f32 := (Memref.whole cc0_stg13_0 : Memref sig .tc .vmem S256x1024 .f32).view
abbrev viewT : View sig .tc .vmem S1024x256 .bf16 := (Memref.whole cc0_stg14_0 : Memref sig .tc .vmem S1024x256 .bf16).view

abbrev stg0 (t : Fin cfg0.N) : Memref sig .tc .vmem S256x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S256x512 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x4x256x64 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x4x256x64 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S512x1024 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S4x64x1024 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S4x64x1024 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x1024 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S1024x1024 .bf16 := win0_8.stage (cfg0.slots t 8)
abbrev whole8 (t : Fin cfg0.N) : (stg8 t).IsWhole := hstage0_8 ((cfg0.slots t 8).cast nbuf0_8)
abbrev stg9 (t : Fin cfg0.N) : Memref sig .tc .vmem S128x64 .f32 := win0_9.stage (cfg0.slots t 9)
abbrev whole9 (t : Fin cfg0.N) : (stg9 t).IsWhole := hstage0_9 ((cfg0.slots t 9).cast nbuf0_9)
abbrev stg10 (t : Fin cfg0.N) : Memref sig .tc .vmem S128x64 .f32 := win0_10.stage (cfg0.slots t 10)
abbrev whole10 (t : Fin cfg0.N) : (stg10 t).IsWhole := hstage0_10 ((cfg0.slots t 10).cast nbuf0_10)
abbrev stg11 (t : Fin cfg0.N) : Memref sig .tc .vmem S72x128 .i32 := win0_11.stage (cfg0.slots t 11)
abbrev whole11 (t : Fin cfg0.N) : (stg11 t).IsWhole := hstage0_11 ((cfg0.slots t 11).cast nbuf0_11)
abbrev stg12 (t : Fin cfg0.N) : Memref sig .tc .vmem S72x128 .f32 := win0_12.stage (cfg0.slots t 12)
abbrev whole12 (t : Fin cfg0.N) : (stg12 t).IsWhole := hstage0_12 ((cfg0.slots t 12).cast nbuf0_12)
abbrev stg13 (t : Fin cfg0.N) : Memref sig .tc .vmem S256x1024 .f32 := win0_13.stage (cfg0.slots t 13)
abbrev whole13 (t : Fin cfg0.N) : (stg13 t).IsWhole := hstage0_13 ((cfg0.slots t 13).cast nbuf0_13)
abbrev stg14 (t : Fin cfg0.N) : Memref sig .tc .vmem S1024x256 .bf16 := win0_14.stage (cfg0.slots t 14)
abbrev whole14 (t : Fin cfg0.N) : (stg14 t).IsWhole := hstage0_14 ((cfg0.slots t 14).cast nbuf0_14)
abbrev stg15 (t : Fin cfg0.N) : Memref sig .tc .vmem S8x128x256 .f32 := win0_15.stage (cfg0.slots t 15)
abbrev whole15 (t : Fin cfg0.N) : (stg15 t).IsWhole := hstage0_15 ((cfg0.slots t 15).cast nbuf0_15)
abbrev stg16 (t : Fin cfg0.N) : Memref sig .tc .vmem S8x128x256 .f32 := win0_16.stage (cfg0.slots t 16)
abbrev whole16 (t : Fin cfg0.N) : (stg16 t).IsWhole := hstage0_16 ((cfg0.slots t 16).cast nbuf0_16)
abbrev stg17 (t : Fin cfg0.N) : Memref sig .tc .vmem S8x128x256 .f32 := win0_17.stage (cfg0.slots t 17)
abbrev whole17 (t : Fin cfg0.N) : (stg17 t).IsWhole := hstage0_17 ((cfg0.slots t 17).cast nbuf0_17)
abbrev stg18 (t : Fin cfg0.N) : Memref sig .tc .vmem S8x128x256 .f32 := win0_18.stage (cfg0.slots t 18)
abbrev whole18 (t : Fin cfg0.N) : (stg18 t).IsWhole := hstage0_18 ((cfg0.slots t 18).cast nbuf0_18)
abbrev scr0 : Memref sig .tc .vmem S1024x256 .f32 := Memref.whole cc0_scratch0
abbrev scr1 : Memref sig .tc .vmem S16x128 .f32 := Memref.whole cc0_scratch1
abbrev scr2 : Memref sig .tc .vmem S16x128 .f32 := Memref.whole cc0_scratch2

/-- The region's invariant, the scratch operands as memrefs owned at some contents. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The stream's block after a point. -/
def stream (c : Dev nD) (t : Fin cfg0.N) : Vec F S256x1024 .f32 :=
  viewH.read (Elt F) (viewH.writes (Elt F) viewH.junk (run c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) (stg13 t) (whole13 t) (stg14 t) (whole14 t) (stg15 t) (whole15 t) (stg16 t) (whole16 t) (stg17 t) (whole17 t) (stg18 t) (whole18 t) scr0 (Memref.isWhole_whole _) scr1 (Memref.isWhole_whole _) scr2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1)

/-- The normalised transpose's block after a point. -/
def transposed (c : Dev nD) (t : Fin cfg0.N) : Vec F S1024x256 .bf16 :=
  viewT.read (Elt F) (viewT.writes (Elt F) viewT.junk (run c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) (stg13 t) (whole13 t) (stg14 t) (whole14 t) (stg15 t) (whole15 t) (stg16 t) (whole16 t) (stg17 t) (whole17 t) (stg18 t) (whole18 t) scr0 (Memref.isWhole_whole _) scr1 (Memref.isWhole_whole _) scr2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1)

/-- The windows of the four selection results, of which nothing is named. -/
def unnamed : Fin 19 → Bool := fun w => w.val == 15 || w.val == 16 || w.val == 17 || w.val == 18
theorem named13 : unnamed (13 : Fin 19) = false := by decide
theorem named14 : unnamed (14 : Fin 19) = false := by decide

/-- What the pipeline's windows hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => stream m c t
    | ⟨14, _⟩ => transposed m c t
    | ⟨15, _⟩ => Dat.unnamed _ t
    | ⟨16, _⟩ => Dat.unnamed _ t
    | ⟨17, _⟩ => Dat.unnamed _ t
    | ⟨18, _⟩ => Dat.unnamed _ t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = stream m c t := by dsimp only [dats]
theorem after14 (c : Dev nD) (t : Fin cfg0.N) : (dats m 0 c).after 14 t = transposed m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- What the body is given at a point, and what it gives back. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d))
    ∗ (∃ X, owns (c : Thread nD τ) (stg15 t) fullShare X)
    ∗ (∃ X, owns (c : Thread nD τ) (stg16 t) fullShare X)
    ∗ (∃ X, owns (c : Thread nD τ) (stg17 t) fullShare X)
    ∗ (∃ X, owns (c : Thread nD τ) (stg18 t) fullShare X))

def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t)
    ∗ (∃ X, owns (c : Thread nD τ) (stg15 t) fullShare X)
    ∗ (∃ X, owns (c : Thread nD τ) (stg16 t) fullShare X)
    ∗ (∃ X, owns (c : Thread nD τ) (stg17 t) fullShare X)
    ∗ (∃ X, owns (c : Thread nD τ) (stg18 t) fullShare X))

set_option maxHeartbeats 4000000 in
/-- The body at a point. -/
theorem body_at (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  rw [show (dats m 0 c).Φ t.castSucc = Pipeline.ΦA spec0 c from rfl, scratch_eq]
  unfold stream transposed
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17, H18⟩
  iapply ((run c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  iintro ⟨H0, H1, H2, H3, H4, H5, H6, H7, H8, H9, H10, H11, H12, ⟨%e13, H13⟩, ⟨%e14, H14⟩, H15, H16, H17, H18, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]; · iexact H15
  isplitl [H16]; · iexact H16
  isplitl [H17]; · iexact H17
  iexact H18

theorem row_at (t : Fin cfg0.N) : defs₀ (F := F) .tc cfg0.body (cfg0.bodyArgs t (cfg0.slots t)) = bodyAt0 t := by
  unfold defs₀; rw [Defs.onTc_tc]

/-- The body's obligation, the selection results at anything. -/
theorem obligation (c : Dev nD) : BodyObligation (dats (F := F) m 0 c) (defs₀ (F := F)) Variants.none () Set.univ unnamed := fun t => by
  rw [bigSep_W0, bigSep_W0, row_at]
  exact triple_restated (body_at m c t) rfl .rfl fun _ => .rfl

set_option backward.isDefEq.respectTransparency.types false in
/-- The launch. -/
theorem launch : θ_run defs (onTc (τ := τ) (main (F := F))) (s₀ m ρ)
    (fun r => RDat.FramePost (cfgs 0) (fun c => (dats m 0 c).toRForget unnamed) (V m) r ∧ r.2.sem = fun _ => 0) :=
  Pipeline.θ_run_frame_forget (Q' := _) cfgs (dats m) (0 : Fin 1) launch0 defs₀ Variants.none unnamed m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged. -/
theorem kept (r : PUnit × MemSt nD τ sig (Elt F)) (h : RDat.FramePost (cfgs 0) (fun c => (dats m 0 c).toRForget unnamed) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 9 rfl).trans ((A_eq m c 9).trans (V_main_arg7 m c)),
    (h.arr_in c 10 rfl).trans ((A_eq m c 10).trans (V_main_arg8 m c))⟩

/-- The frame. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => kept m r h.1 c, h.2⟩) (launch m ρ)

end Cert.Kernel3Ideal

end
-- ==== Proof.Stream.lean ====
module

public import proofs.«01_k».proof.Proof.Project
public import Mathlib.Algebra.BigOperators.Fin

/-! The residual stream by coordinates: each token plus its three branches' channels times the output weights, and the
    stream's normalised channels. The branches' weights come apart by rows, the attentions' by heads. -/

@[expose] public section

noncomputable section

namespace Cert.Stream

open Idealize.ShloMosaic
open scoped BigOperators

/-- The tokens, the branches' channels, the output weights and the norm's weights by coordinates. -/
structure Inputs where
  x : Fin 16384 → Fin 1024 → EReal
  s : Fin 16384 → Fin 512 → EReal
  a : Fin 16384 → Fin 4 → Fin 64 → EReal
  b : Fin 16384 → Fin 4 → Fin 64 → EReal
  w : Fin 1024 → Fin 1024 → EReal
  g : Fin 1024 → EReal

/-- A token's channels of the three branches in one row. -/
def mixed (I : Inputs) (t : Fin 16384) (k : Fin 1024) : EReal :=
  if h : k.val < 512 then I.s t ⟨k.val, h⟩
  else if h' : k.val < 768 then I.a t ⟨(k.val - 512) / 64, by omega⟩ ⟨(k.val - 512) % 64, by omega⟩
  else I.b t ⟨(k.val - 768) / 64, by omega⟩ ⟨(k.val - 768) % 64, by omega⟩

/-- The stream. -/
def stream (I : Inputs) (t : Fin 16384) (d : Fin 1024) : EReal := I.x t d + ∑ k, mixed I t k * I.w k d

/-- The stream's normalised channels. -/
def unit (I : Inputs) (t : Fin 16384) (d : Fin 1024) : EReal := Project.scaled (stream I t) d * I.g d

/-- One head of the local attention, and of the memory's, times its rows of the weights. -/
def headA (I : Inputs) (t : Fin 16384) (d : Fin 1024) (h : Fin 4) : EReal :=
  ∑ j : Fin 64, I.a t h j * I.w ⟨512 + (h.val * 64 + j.val), by omega⟩ d
def headB (I : Inputs) (t : Fin 16384) (d : Fin 1024) (h : Fin 4) : EReal :=
  ∑ j : Fin 64, I.b t h j * I.w ⟨768 + (h.val * 64 + j.val), by omega⟩ d

/-- A sum taken in two parts. -/
theorem sum_parts {n a b : ℕ} (e : n = a + b) (f : Fin n → EReal) :
    ∑ k, f k = (∑ j : Fin a, f ⟨j.val, by omega⟩) + ∑ j : Fin b, f ⟨a + j.val, by omega⟩ := by
  subst e
  exact Fin.sum_univ_add f

/-- A sum over 256 rows by heads. -/
theorem sum_heads (f : Fin 256 → EReal) : ∑ k, f k = (((∑ j : Fin 64, f ⟨0 * 64 + j.val, by omega⟩) + ∑ j : Fin 64, f ⟨1 * 64 + j.val, by omega⟩)
    + ∑ j : Fin 64, f ⟨2 * 64 + j.val, by omega⟩) + ∑ j : Fin 64, f ⟨3 * 64 + j.val, by omega⟩ := by
  rw [sum_parts (a := 192) (b := 64) rfl f, sum_parts (a := 128) (b := 64) rfl (fun k : Fin 192 => f ⟨k.val, by omega⟩),
    sum_parts (a := 64) (b := 64) rfl (fun k : Fin 128 => f ⟨k.val, by omega⟩)]
  congr 3

theorem mixed_s (I : Inputs) (t : Fin 16384) (j : Fin 512) : mixed I t ⟨j.val, by omega⟩ = I.s t j := by
  unfold mixed
  rw [dif_pos j.isLt]

theorem mixed_a (I : Inputs) (t : Fin 16384) (h : Fin 4) (j : Fin 64) : mixed I t ⟨512 + (h.val * 64 + j.val), by omega⟩ = I.a t h j := by
  unfold mixed
  rw [dif_neg (by simp), dif_pos (by simp; omega)]
  exact congrArg₂ (I.a t) (Fin.ext (by simp <;> omega)) (Fin.ext (by simp <;> omega))

theorem mixed_b (I : Inputs) (t : Fin 16384) (h : Fin 4) (j : Fin 64) : mixed I t ⟨768 + (h.val * 64 + j.val), by omega⟩ = I.b t h j := by
  unfold mixed
  rw [dif_neg (by simp; omega), dif_neg (by simp)]
  exact congrArg₂ (I.b t) (Fin.ext (by simp <;> omega)) (Fin.ext (by simp <;> omega))

/-- The stream, the branches' products added one after another. -/
theorem stream_parts (I : Inputs) (t : Fin 16384) (d : Fin 1024) :
    stream I t d = (((((((((I.x t d + ∑ k : Fin 512, I.s t k * I.w ⟨k.val, by omega⟩ d) + headA I t d 0) + headB I t d 0) + headA I t d 1) + headB I t d 1)
      + headA I t d 2) + headB I t d 2) + headA I t d 3) + headB I t d 3) := by
  have eA : ∑ j : Fin 256, mixed I t ⟨512 + j.val, by omega⟩ * I.w ⟨512 + j.val, by omega⟩ d
      = ((headA I t d 0 + headA I t d 1) + headA I t d 2) + headA I t d 3 := by
    rw [sum_heads]
    unfold headA
    simp only [← mixed_a]
    rfl
  have eB : ∑ j : Fin 256, mixed I t ⟨768 + j.val, by omega⟩ * I.w ⟨768 + j.val, by omega⟩ d
      = ((headB I t d 0 + headB I t d 1) + headB I t d 2) + headB I t d 3 := by
    rw [sum_heads]
    unfold headB
    simp only [← mixed_b]
    rfl
  unfold stream
  rw [sum_parts (a := 768) (b := 256) rfl, sum_parts (a := 512) (b := 256) rfl (fun k : Fin 768 => _), eA, eB]
  simp only [mixed_s]
  ac_rfl

end Cert.Stream
-- ==== Proof.StreamBlocks.lean ====
module

public import proofs.«01_k».proof.Proof.Kernel3IdealFrame
public import proofs.«01_k».proof.Proof.Stream
public import Idealize.ShloMosaic.Lib.Pointwise
public import Idealize.ShloMosaic.Lib.Pipeline.ValueKit

/-! The blocks that the stream's operands hold at a grid point, in the arguments' coordinates. -/

@[expose] public section

set_option maxRecDepth 16384

noncomputable section

namespace Cert.Kernel3Ideal.Res

open Idealize.ShloMosaic Idealize.ShloMosaic.TcCoe Idealize.SL.Sem
open Cert.Kernel3Ideal Cert.Kernel3Ideal.Gen Cert.Stream
open scoped BigOperators

variable (m : (ℓ : Loc nD τ sig) → Buf (Elt Ideal) ℓ)

/-- The launch's arguments by coordinates. -/
def inputs (c : Dev nD) : Inputs where
  x t d := (m ((c : Thread nD τ).loc main_arg0) : FVec Ideal S16384x1024 .f32) (ix2 t d)
  s t k := (m ((c : Thread nD τ).loc main_arg1) : FVec Ideal S16384x512 .bf16) (ix2 t k)
  a t h j := (m ((c : Thread nD τ).loc main_arg2) : FVec Ideal S2x4x8192x64 .f32) (ix4 ⟨t.val / 8192, by omega⟩ h ⟨t.val % 8192, by omega⟩ j)
  b t h j := (m ((c : Thread nD τ).loc main_arg3) : FVec Ideal S2x4x8192x64 .f32) (ix4 ⟨t.val / 8192, by omega⟩ h ⟨t.val % 8192, by omega⟩ j)
  w k d := (m ((c : Thread nD τ).loc main_arg4) : FVec Ideal S1024x1024 .f32) (ix2 k d)
  g d := (m ((c : Thread nD τ).loc main_arg5) : FVec Ideal S1024 .f32) (ix1 d)

/-! ### The operands the host prepares -/

theorem gain_at (c : Dev nD) (d : Fin 1024) : (V m c main_v8 : FVec Ideal S1x1024 .f32) (ix2 0 d) = (inputs m c).g d := by
  have e : (V m c main_v8 : FVec Ideal S1x1024 .f32) = shapeCast S1x1024 (m ((c : Thread nD τ).loc main_arg5) : FVec Ideal S1024 .f32) shapeCasts_S1024_S1x1024 := by
    entry_read
    try rfl
  rw [e]
  pointwise
  rfl

theorem ws_at (c : Dev nD) (k : Fin 512) (d : Fin 1024) :
    (V m c main_v7 : FVec Ideal S512x1024 .bf16) (ix2 k d) = (inputs m c).w ⟨k.val, by omega⟩ d := by
  have e : (V m c main_v7 : FVec Ideal S512x1024 .bf16) = extractStridedSlice S512x1024 ![0, 0]
      (truncf (F := Ideal) .bf16 (m ((c : Thread nD τ).loc main_arg4) : FVec Ideal S1024x1024 .f32) bitsLt_bf16_f32) slices_S1024x1024_S512x1024_0_0 := by
    entry_read
    try rfl
  rw [e]
  pointwise
  rfl

theorem wa_at (c : Dev nD) (h : Fin 4) (j : Fin 64) (d : Fin 1024) :
    (V m c main_v4 : FVec Ideal S4x64x1024 .bf16) (ix3 h j d) = (inputs m c).w ⟨512 + (h.val * 64 + j.val), by omega⟩ d := by
  have e : (V m c main_v4 : FVec Ideal S4x64x1024 .bf16) = shapeCast S4x64x1024 (extractStridedSlice S256x1024 ![512, 0]
      (truncf (F := Ideal) .bf16 (m ((c : Thread nD τ).loc main_arg4) : FVec Ideal S1024x1024 .f32) bitsLt_bf16_f32) slices_S1024x1024_S256x1024_512_0) shapeCasts_S256x1024_S4x64x1024 := by
    entry_read
    try rfl
  rw [e]
  pointwise
  rfl

theorem wb_at (c : Dev nD) (h : Fin 4) (j : Fin 64) (d : Fin 1024) :
    (V m c main_v6 : FVec Ideal S4x64x1024 .bf16) (ix3 h j d) = (inputs m c).w ⟨768 + (h.val * 64 + j.val), by omega⟩ d := by
  have e : (V m c main_v6 : FVec Ideal S4x64x1024 .bf16) = shapeCast S4x64x1024 (extractStridedSlice S256x1024 ![768, 0]
      (truncf (F := Ideal) .bf16 (m ((c : Thread nD τ).loc main_arg4) : FVec Ideal S1024x1024 .f32) bitsLt_bf16_f32) slices_S1024x1024_S256x1024_768_0) shapeCasts_S256x1024_S4x64x1024 := by
    entry_read
    try rfl
  rw [e]
  pointwise
  rfl

/-! ### The windows' blocks -/

/-- The block that each window takes at a point. -/
theorem idx : ∀ t : Fin cfg0.N, win0_0.index t = ![t.val, 0] ∧ win0_1.index t = ![t.val, 0] ∧ win0_2.index t = ![t.val / 32, 0, t.val % 32, 0]
    ∧ win0_3.index t = ![t.val / 32, 0, t.val % 32, 0] ∧ win0_4.index t = ![0, 0] ∧ win0_5.index t = ![0, 0, 0] ∧ win0_6.index t = ![0, 0, 0]
    ∧ win0_7.index t = ![0, 0] ∧ win0_13.index t = ![t.val, 0] ∧ win0_14.index t = ![0, t.val] ∧ t.val < 64 :=
  (by decide +kernel : ∀ t : Fin grid0.N, _)

/-- A token of a point's block. -/
def tok (t : Fin cfg0.N) (r : Fin 256) : Fin 16384 := ⟨t.val * 256 + r.val, by
  have := (idx t).2.2.2.2.2.2.2.2.2.2
  omega⟩

theorem blk0_at (c : Dev nD) (t : Fin cfg0.N) (r : Fin 256) (d : Fin 1024) :
    (iblk m c 0 t : FVec Ideal S256x1024 .f32) (ix2 r d) = (inputs m c).x (tok t r) d := by
  show _ = (m ((c : Thread nD τ).loc main_arg0) : FVec Ideal S16384x1024 .f32) (ix2 (tok t r) d)
  rw [← V_main_arg0 m c]
  unfold tok
  blk_ext [iblk, idx t]

theorem blk1_at (c : Dev nD) (t : Fin cfg0.N) (r : Fin 256) (k : Fin 512) :
    (iblk m c 1 t : FVec Ideal S256x512 .bf16) (ix2 r k) = (inputs m c).s (tok t r) k := by
  show _ = (m ((c : Thread nD τ).loc main_arg1) : FVec Ideal S16384x512 .bf16) (ix2 (tok t r) k)
  rw [← V_main_arg1 m c]
  unfold tok
  blk_ext [iblk, idx t]

theorem blk2_at (c : Dev nD) (t : Fin cfg0.N) (h : Fin 4) (r : Fin 256) (j : Fin 64) :
    (iblk m c 2 t : FVec Ideal S1x4x256x64 .f32) (ix4 0 h r j) = (inputs m c).a (tok t r) h j := by
  show _ = (m ((c : Thread nD τ).loc main_arg2) : FVec Ideal S2x4x8192x64 .f32) (ix4 ⟨(tok t r).val / 8192, _⟩ h ⟨(tok t r).val % 8192, _⟩ j)
  rw [← V_main_arg2 m c]
  unfold tok
  blk_ext [iblk, idx t]

theorem blk3_at (c : Dev nD) (t : Fin cfg0.N) (h : Fin 4) (r : Fin 256) (j : Fin 64) :
    (iblk m c 3 t : FVec Ideal S1x4x256x64 .f32) (ix4 0 h r j) = (inputs m c).b (tok t r) h j := by
  show _ = (m ((c : Thread nD τ).loc main_arg3) : FVec Ideal S2x4x8192x64 .f32) (ix4 ⟨(tok t r).val / 8192, _⟩ h ⟨(tok t r).val % 8192, _⟩ j)
  rw [← V_main_arg3 m c]
  unfold tok
  blk_ext [iblk, idx t]

theorem blk4_at (c : Dev nD) (t : Fin cfg0.N) (k : Fin 512) (d : Fin 1024) :
    (iblk m c 4 t : FVec Ideal S512x1024 .bf16) (ix2 k d) = (inputs m c).w ⟨k.val, by omega⟩ d := by
  rw [← ws_at m c]
  blk_ext [iblk, idx t]

theorem blk5_at (c : Dev nD) (t : Fin cfg0.N) (h : Fin 4) (j : Fin 64) (d : Fin 1024) :
    (iblk m c 5 t : FVec Ideal S4x64x1024 .bf16) (ix3 h j d) = (inputs m c).w ⟨512 + (h.val * 64 + j.val), by omega⟩ d := by
  rw [← wa_at m c]
  blk_ext [iblk, idx t]

theorem blk6_at (c : Dev nD) (t : Fin cfg0.N) (h : Fin 4) (j : Fin 64) (d : Fin 1024) :
    (iblk m c 6 t : FVec Ideal S4x64x1024 .bf16) (ix3 h j d) = (inputs m c).w ⟨768 + (h.val * 64 + j.val), by omega⟩ d := by
  rw [← wb_at m c]
  blk_ext [iblk, idx t]

theorem blk7_at (c : Dev nD) (t : Fin cfg0.N) (d : Fin 1024) : (iblk m c 7 t : FVec Ideal S1x1024 .f32) (ix2 0 d) = (inputs m c).g d := by
  rw [← gain_at m c]
  blk_ext [iblk, idx t]

end Cert.Kernel3Ideal.Res
-- ==== Proof.StreamArrays.lean ====
module

public import proofs.«01_k».proof.Proof.StreamBlocks

/-! The stream's launch: the arrays it leaves, by coordinates. -/

@[expose] public section

set_option maxRecDepth 16384

noncomputable section

namespace Cert.Kernel3Ideal.Res

open Idealize.ShloMosaic Idealize.ShloMosaic.TcCoe Idealize.SL.Sem
open Cert.Kernel3Ideal Cert.Kernel3Ideal.Gen Cert.Stream
open scoped BigOperators

variable (m : (ℓ : Loc nD τ sig) → Buf (Elt Ideal) ℓ)

/-! ### The loads of one head -/

theorem head0_at (X : Vec Ideal S1x4x256x64 .f32) (r : Fin 256) (j : Fin 64) :
    View.ld X (Rect.unit (s := S1x4x256x64) ![0, 0, 0, 0] S1x1x256x64.size inb_S1x4x256x64_S1x1x256x64_0_0_0_0) (ix4 0 0 r j) = X (ix4 0 0 r j) := by
  pointwise

theorem rows0_at (X : Vec Ideal S4x64x1024 .bf16) (j : Fin 64) (d : Fin 1024) :
    View.ld X (Rect.unit (s := S4x64x1024) ![0, 0, 0] S1x64x1024.size inb_S4x64x1024_S1x64x1024_0_0_0) (ix3 0 j d) = X (ix3 0 j d) := by
  pointwise

theorem head1_at (X : Vec Ideal S1x4x256x64 .f32) (r : Fin 256) (j : Fin 64) :
    View.ld X (Rect.unit (s := S1x4x256x64) ![0, 1, 0, 0] S1x1x256x64.size inb_S1x4x256x64_S1x1x256x64_0_1_0_0) (ix4 0 0 r j) = X (ix4 0 1 r j) := by
  pointwise

theorem rows1_at (X : Vec Ideal S4x64x1024 .bf16) (j : Fin 64) (d : Fin 1024) :
    View.ld X (Rect.unit (s := S4x64x1024) ![1, 0, 0] S1x64x1024.size inb_S4x64x1024_S1x64x1024_1_0_0) (ix3 0 j d) = X (ix3 1 j d) := by
  pointwise

theorem head2_at (X : Vec Ideal S1x4x256x64 .f32) (r : Fin 256) (j : Fin 64) :
    View.ld X (Rect.unit (s := S1x4x256x64) ![0, 2, 0, 0] S1x1x256x64.size inb_S1x4x256x64_S1x1x256x64_0_2_0_0) (ix4 0 0 r j) = X (ix4 0 2 r j) := by
  pointwise

theorem rows2_at (X : Vec Ideal S4x64x1024 .bf16) (j : Fin 64) (d : Fin 1024) :
    View.ld X (Rect.unit (s := S4x64x1024) ![2, 0, 0] S1x64x1024.size inb_S4x64x1024_S1x64x1024_2_0_0) (ix3 0 j d) = X (ix3 2 j d) := by
  pointwise

theorem head3_at (X : Vec Ideal S1x4x256x64 .f32) (r : Fin 256) (j : Fin 64) :
    View.ld X (Rect.unit (s := S1x4x256x64) ![0, 3, 0, 0] S1x1x256x64.size inb_S1x4x256x64_S1x1x256x64_0_3_0_0) (ix4 0 0 r j) = X (ix4 0 3 r j) := by
  pointwise

theorem rows3_at (X : Vec Ideal S4x64x1024 .bf16) (j : Fin 64) (d : Fin 1024) :
    View.ld X (Rect.unit (s := S4x64x1024) ![3, 0, 0] S1x64x1024.size inb_S4x64x1024_S1x64x1024_3_0_0) (ix3 0 j d) = X (ix3 3 j d) := by
  pointwise

/-! ### The body's terms -/

/-- One head's channels times its rows of the weights. -/
def headTerm (y : Vec Ideal S1x1x256x64 .f32) (w : Vec Ideal S1x64x1024 .bf16) (r : Fin 256) (d : Fin 1024) : EReal :=
  ∑ j : Fin 64, y (ix4 0 0 r j) * w (ix3 0 j d)

theorem first_form (x : Vec Ideal S256x1024 .f32) (y : Vec Ideal S256x512 .bf16) (w : Vec Ideal S512x1024 .bf16)
    (a0 : Vec Ideal S1x1x256x64 .f32) (v0 : Vec Ideal S1x64x1024 .bf16) (b0 : Vec Ideal S1x1x256x64 .f32) (u0 : Vec Ideal S1x64x1024 .bf16)
    (a1 : Vec Ideal S1x1x256x64 .f32) (v1 : Vec Ideal S1x64x1024 .bf16) (r : Fin 256) (d : Fin 1024) :
    k0_pay71 (F := Ideal) x y w a0 v0 b0 u0 a1 v1 (ix2 r d)
      = (((x (ix2 r d) + ∑ k : Fin 512, y (ix2 r k) * w (ix2 k d)) + headTerm a0 v0 r d) + headTerm b0 u0 r d) + headTerm a1 v1 r d := by
  unfold headTerm
  pointwise [k0_pay71]

theorem middle_form (z : FVec Ideal S256x1024 .f32)
    (b1 : Vec Ideal S1x1x256x64 .f32) (u1 : Vec Ideal S1x64x1024 .bf16) (a2 : Vec Ideal S1x1x256x64 .f32) (v2 : Vec Ideal S1x64x1024 .bf16)
    (b2 : Vec Ideal S1x1x256x64 .f32) (u2 : Vec Ideal S1x64x1024 .bf16) (a3 : Vec Ideal S1x1x256x64 .f32) (v3 : Vec Ideal S1x64x1024 .bf16)
    (r : Fin 256) (d : Fin 1024) :
    k0_pay72 (F := Ideal) z b1 u1 a2 v2 b2 u2 a3 v3 (ix2 r d)
      = (((z (ix2 r d) + headTerm b1 u1 r d) + headTerm a2 v2 r d) + headTerm b2 u2 r d) + headTerm a3 v3 r d := by
  unfold headTerm
  pointwise [k0_pay72]

theorem last_form (z : FVec Ideal S256x1024 .f32) (b3 : Vec Ideal S1x1x256x64 .f32) (u3 : Vec Ideal S1x64x1024 .bf16) (r : Fin 256) (d : Fin 1024) :
    k0_pay73 (F := Ideal) z b3 u3 (ix2 r d) = z (ix2 r d) + headTerm b3 u3 r d := by
  unfold headTerm
  pointwise [k0_pay73]

theorem unit_form (z : FVec Ideal S256x1024 .f32) (b3 : Vec Ideal S1x1x256x64 .f32) (u3 : Vec Ideal S1x64x1024 .bf16) (g : Vec Ideal S1x1024 .f32)
    (r : Fin 256) (d : Fin 1024) :
    k0_pay74 (F := Ideal) z b3 u3 g (ix2 d r) = Project.scaled (fun e => k0_pay73 (F := Ideal) z b3 u3 (ix2 r e)) d * g (ix2 0 d) := by
  unfold Project.scaled
  pointwise [k0_pay74]

theorem termA0 (c : Dev nD) (t : Fin cfg0.N) (r : Fin 256) (d : Fin 1024) :
    headTerm (View.ld (iblk m c 2 t : Vec Ideal S1x4x256x64 .f32) (Rect.unit (s := S1x4x256x64) ![0, 0, 0, 0] S1x1x256x64.size inb_S1x4x256x64_S1x1x256x64_0_0_0_0)) (View.ld (iblk m c 5 t : Vec Ideal S4x64x1024 .bf16) (Rect.unit (s := S4x64x1024) ![0, 0, 0] S1x64x1024.size inb_S4x64x1024_S1x64x1024_0_0_0)) r d = headA (inputs m c) (tok t r) d 0 := by
  unfold headTerm headA
  exact Finset.sum_congr rfl fun j _ => by rw [head0_at, rows0_at, blk2_at, blk5_at]

theorem termB0 (c : Dev nD) (t : Fin cfg0.N) (r : Fin 256) (d : Fin 1024) :
    headTerm (View.ld (iblk m c 3 t : Vec Ideal S1x4x256x64 .f32) (Rect.unit (s := S1x4x256x64) ![0, 0, 0, 0] S1x1x256x64.size inb_S1x4x256x64_S1x1x256x64_0_0_0_0)) (View.ld (iblk m c 6 t : Vec Ideal S4x64x1024 .bf16) (Rect.unit (s := S4x64x1024) ![0, 0, 0] S1x64x1024.size inb_S4x64x1024_S1x64x1024_0_0_0)) r d = headB (inputs m c) (tok t r) d 0 := by
  unfold headTerm headB
  exact Finset.sum_congr rfl fun j _ => by rw [head0_at, rows0_at, blk3_at, blk6_at]

theorem termA1 (c : Dev nD) (t : Fin cfg0.N) (r : Fin 256) (d : Fin 1024) :
    headTerm (View.ld (iblk m c 2 t : Vec Ideal S1x4x256x64 .f32) (Rect.unit (s := S1x4x256x64) ![0, 1, 0, 0] S1x1x256x64.size inb_S1x4x256x64_S1x1x256x64_0_1_0_0)) (View.ld (iblk m c 5 t : Vec Ideal S4x64x1024 .bf16) (Rect.unit (s := S4x64x1024) ![1, 0, 0] S1x64x1024.size inb_S4x64x1024_S1x64x1024_1_0_0)) r d = headA (inputs m c) (tok t r) d 1 := by
  unfold headTerm headA
  exact Finset.sum_congr rfl fun j _ => by rw [head1_at, rows1_at, blk2_at, blk5_at]

theorem termB1 (c : Dev nD) (t : Fin cfg0.N) (r : Fin 256) (d : Fin 1024) :
    headTerm (View.ld (iblk m c 3 t : Vec Ideal S1x4x256x64 .f32) (Rect.unit (s := S1x4x256x64) ![0, 1, 0, 0] S1x1x256x64.size inb_S1x4x256x64_S1x1x256x64_0_1_0_0)) (View.ld (iblk m c 6 t : Vec Ideal S4x64x1024 .bf16) (Rect.unit (s := S4x64x1024) ![1, 0, 0] S1x64x1024.size inb_S4x64x1024_S1x64x1024_1_0_0)) r d = headB (inputs m c) (tok t r) d 1 := by
  unfold headTerm headB
  exact Finset.sum_congr rfl fun j _ => by rw [head1_at, rows1_at, blk3_at, blk6_at]

theorem termA2 (c : Dev nD) (t : Fin cfg0.N) (r : Fin 256) (d : Fin 1024) :
    headTerm (View.ld (iblk m c 2 t : Vec Ideal S1x4x256x64 .f32) (Rect.unit (s := S1x4x256x64) ![0, 2, 0, 0] S1x1x256x64.size inb_S1x4x256x64_S1x1x256x64_0_2_0_0)) (View.ld (iblk m c 5 t : Vec Ideal S4x64x1024 .bf16) (Rect.unit (s := S4x64x1024) ![2, 0, 0] S1x64x1024.size inb_S4x64x1024_S1x64x1024_2_0_0)) r d = headA (inputs m c) (tok t r) d 2 := by
  unfold headTerm headA
  exact Finset.sum_congr rfl fun j _ => by rw [head2_at, rows2_at, blk2_at, blk5_at]

theorem termB2 (c : Dev nD) (t : Fin cfg0.N) (r : Fin 256) (d : Fin 1024) :
    headTerm (View.ld (iblk m c 3 t : Vec Ideal S1x4x256x64 .f32) (Rect.unit (s := S1x4x256x64) ![0, 2, 0, 0] S1x1x256x64.size inb_S1x4x256x64_S1x1x256x64_0_2_0_0)) (View.ld (iblk m c 6 t : Vec Ideal S4x64x1024 .bf16) (Rect.unit (s := S4x64x1024) ![2, 0, 0] S1x64x1024.size inb_S4x64x1024_S1x64x1024_2_0_0)) r d = headB (inputs m c) (tok t r) d 2 := by
  unfold headTerm headB
  exact Finset.sum_congr rfl fun j _ => by rw [head2_at, rows2_at, blk3_at, blk6_at]

theorem termA3 (c : Dev nD) (t : Fin cfg0.N) (r : Fin 256) (d : Fin 1024) :
    headTerm (View.ld (iblk m c 2 t : Vec Ideal S1x4x256x64 .f32) (Rect.unit (s := S1x4x256x64) ![0, 3, 0, 0] S1x1x256x64.size inb_S1x4x256x64_S1x1x256x64_0_3_0_0)) (View.ld (iblk m c 5 t : Vec Ideal S4x64x1024 .bf16) (Rect.unit (s := S4x64x1024) ![3, 0, 0] S1x64x1024.size inb_S4x64x1024_S1x64x1024_3_0_0)) r d = headA (inputs m c) (tok t r) d 3 := by
  unfold headTerm headA
  exact Finset.sum_congr rfl fun j _ => by rw [head3_at, rows3_at, blk2_at, blk5_at]

theorem termB3 (c : Dev nD) (t : Fin cfg0.N) (r : Fin 256) (d : Fin 1024) :
    headTerm (View.ld (iblk m c 3 t : Vec Ideal S1x4x256x64 .f32) (Rect.unit (s := S1x4x256x64) ![0, 3, 0, 0] S1x1x256x64.size inb_S1x4x256x64_S1x1x256x64_0_3_0_0)) (View.ld (iblk m c 6 t : Vec Ideal S4x64x1024 .bf16) (Rect.unit (s := S4x64x1024) ![3, 0, 0] S1x64x1024.size inb_S4x64x1024_S1x64x1024_3_0_0)) r d = headB (inputs m c) (tok t r) d 3 := by
  unfold headTerm headB
  exact Finset.sum_congr rfl fun j _ => by rw [head3_at, rows3_at, blk3_at, blk6_at]

/-- What the body stores for the stream at a point. -/
def stored (c : Dev nD) (t : Fin cfg0.N) : FVec Ideal S256x1024 .f32 :=
  k0_pay73 (F := Ideal) (k0_pay72 (F := Ideal) (k0_pay71 (F := Ideal) (iblk m c 0 t) (iblk m c 1 t) (iblk m c 4 t) (View.ld (iblk m c 2 t : Vec Ideal S1x4x256x64 .f32) (Rect.unit (s := S1x4x256x64) ![0, 0, 0, 0] S1x1x256x64.size inb_S1x4x256x64_S1x1x256x64_0_0_0_0)) (View.ld (iblk m c 5 t : Vec Ideal S4x64x1024 .bf16) (Rect.unit (s := S4x64x1024) ![0, 0, 0] S1x64x1024.size inb_S4x64x1024_S1x64x1024_0_0_0)) (View.ld (iblk m c 3 t : Vec Ideal S1x4x256x64 .f32) (Rect.unit (s := S1x4x256x64) ![0, 0, 0, 0] S1x1x256x64.size inb_S1x4x256x64_S1x1x256x64_0_0_0_0)) (View.ld (iblk m c 6 t : Vec Ideal S4x64x1024 .bf16) (Rect.unit (s := S4x64x1024) ![0, 0, 0] S1x64x1024.size inb_S4x64x1024_S1x64x1024_0_0_0)) (View.ld (iblk m c 2 t : Vec Ideal S1x4x256x64 .f32) (Rect.unit (s := S1x4x256x64) ![0, 1, 0, 0] S1x1x256x64.size inb_S1x4x256x64_S1x1x256x64_0_1_0_0)) (View.ld (iblk m c 5 t : Vec Ideal S4x64x1024 .bf16) (Rect.unit (s := S4x64x1024) ![1, 0, 0] S1x64x1024.size inb_S4x64x1024_S1x64x1024_1_0_0))) (View.ld (iblk m c 3 t : Vec Ideal S1x4x256x64 .f32) (Rect.unit (s := S1x4x256x64) ![0, 1, 0, 0] S1x1x256x64.size inb_S1x4x256x64_S1x1x256x64_0_1_0_0)) (View.ld (iblk m c 6 t : Vec Ideal S4x64x1024 .bf16) (Rect.unit (s := S4x64x1024) ![1, 0, 0] S1x64x1024.size inb_S4x64x1024_S1x64x1024_1_0_0)) (View.ld (iblk m c 2 t : Vec Ideal S1x4x256x64 .f32) (Rect.unit (s := S1x4x256x64) ![0, 2, 0, 0] S1x1x256x64.size inb_S1x4x256x64_S1x1x256x64_0_2_0_0)) (View.ld (iblk m c 5 t : Vec Ideal S4x64x1024 .bf16) (Rect.unit (s := S4x64x1024) ![2, 0, 0] S1x64x1024.size inb_S4x64x1024_S1x64x1024_2_0_0)) (View.ld (iblk m c 3 t : Vec Ideal S1x4x256x64 .f32) (Rect.unit (s := S1x4x256x64) ![0, 2, 0, 0] S1x1x256x64.size inb_S1x4x256x64_S1x1x256x64_0_2_0_0)) (View.ld (iblk m c 6 t : Vec Ideal S4x64x1024 .bf16) (Rect.unit (s := S4x64x1024) ![2, 0, 0] S1x64x1024.size inb_S4x64x1024_S1x64x1024_2_0_0)) (View.ld (iblk m c 2 t : Vec Ideal S1x4x256x64 .f32) (Rect.unit (s := S1x4x256x64) ![0, 3, 0, 0] S1x1x256x64.size inb_S1x4x256x64_S1x1x256x64_0_3_0_0)) (View.ld (iblk m c 5 t : Vec Ideal S4x64x1024 .bf16) (Rect.unit (s := S4x64x1024) ![3, 0, 0] S1x64x1024.size inb_S4x64x1024_S1x64x1024_3_0_0))) (View.ld (iblk m c 3 t : Vec Ideal S1x4x256x64 .f32) (Rect.unit (s := S1x4x256x64) ![0, 3, 0, 0] S1x1x256x64.size inb_S1x4x256x64_S1x1x256x64_0_3_0_0)) (View.ld (iblk m c 6 t : Vec Ideal S4x64x1024 .bf16) (Rect.unit (s := S4x64x1024) ![3, 0, 0] S1x64x1024.size inb_S4x64x1024_S1x64x1024_3_0_0))

theorem stored_at (c : Dev nD) (t : Fin cfg0.N) (r : Fin 256) (d : Fin 1024) : stored m c t (ix2 r d) = Stream.stream (inputs m c) (tok t r) d := by
  unfold stored
  rw [last_form, middle_form, first_form, termA0, termA1, termA2, termA3, termB0, termB1, termB2, termB3, stream_parts, blk0_at]
  simp only [blk1_at, blk4_at]

/-! ### The arrays -/

/-- The stream as an array. -/
def streams (I : Inputs) : FVec Ideal S16384x1024 .f32 := fun x => Stream.stream I (x 0) (x 1)

/-- The normalised channels as an array, the tokens along the second axis. -/
def units (I : Inputs) : FVec Ideal S1024x16384 .bf16 := fun x => Stream.unit I (x 1) (x 0)

theorem array13 (c : Dev nD) : (dats m 0 c).arrAt 13 cfg0.N = streams (inputs m c) := by
  refine (dats m 0 c).arrAt_eq_of_covers 13 _ (by decide +kernel) fun t hf y => ?_
  blk_simp
  rw [after13]
  unfold Kernel3Ideal.stream
  frame_out
  obtain ⟨r, j, rfl⟩ : ∃ r j, y = ix2 r j := ⟨y 0, y 1, eq_ix2 y⟩
  have e : streams (inputs m c) (((cfg0.win 13).blk t).view.emb (ix2 r j)) = streams (inputs m c) (ix2 (tok t r) j) := by
    unfold tok
    blk_ext [idx t]
  exact (stored_at m c t r j).trans e.symm

theorem array14 (c : Dev nD) : (dats m 0 c).arrAt 14 cfg0.N = units (inputs m c) := by
  refine (dats m 0 c).arrAt_eq_of_covers 14 _ (by decide +kernel) fun t hf y => ?_
  blk_simp
  rw [after14]
  unfold Kernel3Ideal.transposed
  frame_out
  obtain ⟨j, r, rfl⟩ : ∃ j r, y = ix2 j r := ⟨y 0, y 1, eq_ix2 y⟩
  have e : units (inputs m c) (((cfg0.win 14).blk t).view.emb (ix2 j r)) = units (inputs m c) (ix2 j (tok t r)) := by
    unfold tok
    blk_ext [idx t]
  refine Eq.trans ?_ e.symm
  refine (unit_form _ _ _ _ r j).trans ?_
  rw [blk7_at]
  show Project.scaled (fun e => stored m c t (ix2 r e)) j * _ = Stream.unit (inputs m c) (tok t r) j
  rw [show (fun e => stored m c t (ix2 r e)) = Stream.stream (inputs m c) (tok t r) from funext (stored_at m c t r)]
  rfl

end Cert.Kernel3Ideal.Res
-- ==== Proof.StreamReference.lean ====
module

public import proofs.«01_k».proof.Proof.Gen.Reference3Ideal.Run
public import proofs.«01_k».proof.Proof.StreamArrays

/-! The reference's results are the stream and its normalised channels by coordinates. -/

@[expose] public section

set_option maxRecDepth 16384

noncomputable section

namespace Cert.Reference3Ideal.Res

open Idealize.ShloMosaic Idealize.ShloMosaic.TcCoe Idealize.SL.Sem
open Cert.Reference3Ideal Cert.Reference3Ideal.Gen Cert.Stream
open scoped BigOperators

variable (x : FVec Ideal S16384x1024 .f32) (s : FVec Ideal S16384x512 .bf16) (a b : FVec Ideal S2x4x8192x64 .f32)
  (w : FVec Ideal S1024x1024 .f32) (g : FVec Ideal S1024 .f32)

/-- The reference's arguments by coordinates. -/
def inputs : Inputs where
  x t d := x (ix2 t d)
  s t k := s (ix2 t k)
  a t h j := a (ix4 ⟨t.val / 8192, by omega⟩ h ⟨t.val % 8192, by omega⟩ j)
  b t h j := b (ix4 ⟨t.val / 8192, by omega⟩ h ⟨t.val % 8192, by omega⟩ j)
  w k d := w (ix2 k d)
  g d := g (ix1 d)

/-- An attention's channels, the heads' side by side. -/
def lined (y : FVec Ideal S2x4x8192x64 .f32) : FVec Ideal S16384x256 .f32 :=
  shapeCast _ (transpose S2x8192x4x64 [0, 2, 1, 3] y transposes_S2x4x8192x64_S2x8192x4x64_0_2_1_3) shapeCasts_S2x8192x4x64_S16384x256

theorem lined_at (y : FVec Ideal S2x4x8192x64 .f32) (t : Fin 16384) (k : Fin 256) :
    lined y (ix2 t k) = y (ix4 ⟨t.val / 8192, by omega⟩ ⟨k.val / 64, by omega⟩ ⟨t.val % 8192, by omega⟩ ⟨k.val % 64, by omega⟩) := by
  pointwise [lined]

/-- The branches' channels in one row. -/
def row : FVec Ideal S16384x1024 .f32 :=
  concatenate S16384x1024 1 [⟨S16384x512, (extf (F := Ideal) .f32 s bitsLt_bf16_f32 : FVec Ideal S16384x512 .f32)⟩, ⟨S16384x256, lined a⟩, ⟨S16384x256, lined b⟩]
    concatenates_S16384x512_S16384x256_S16384x256_S16384x1024_d1

theorem row_at (t : Fin 16384) (k : Fin 1024) : row s a b (ix2 t k) = mixed (inputs x s a b w g) t k := by
  unfold mixed
  pointwise [row]
  simp only [lined_at]
  by_cases h : k.val < 512
  · rw [dif_pos h, dif_pos h]
    rfl
  · by_cases h' : k.val < 768
    · rw [dif_neg h, dif_neg h, dif_pos (by omega), dif_pos h']
      rfl
    · rw [dif_neg h, dif_neg h, dif_neg (by omega), dif_neg h']
      exact congrArg₂ (fun u v => b (ix4 ⟨t.val / 8192, by omega⟩ u ⟨t.val % 8192, by omega⟩ v)) (Fin.ext (by simp only [Nat.sub_sub]))
        (Fin.ext (by simp only [Nat.sub_sub]))

/-- The stream. -/
def total : FVec Ideal S16384x1024 .f32 :=
  addf x (Host.dotGeneral dot_S16384x1024_S1024x1024_S16384x1024_1_0_0_1_n_n none (row s a b) w)

theorem total_at (t : Fin 16384) (d : Fin 1024) : total x s a b w (ix2 t d) = stream (inputs x s a b w g) t d := by
  have e : total x s a b w (ix2 t d) = x (ix2 t d) + ∑ k, row s a b (ix2 t k) * w (ix2 k d) := by
    pointwise [total]
  rw [e]
  unfold stream
  exact congrArg _ (Finset.sum_congr rfl fun k _ => by rw [row_at x s a b w g]; rfl)

/-- The mean squares. -/
def means (h : FVec Ideal S16384x1024 .f32) : FVec Ideal S16384x1 .f32 :=
  Host.divf (broadcastInDim S16384x1 ![0] bcast_S16384_S16384x1_0 (Host.reduceAdd (mulf h h) (constant S_ .f32 0x00000000#32) reducesTo_S16384x1024_S16384_d1 h_S_))
    (broadcastInDim S16384x1 ![] bcast_S_S16384x1 (constant S_ .f32 0x44800000#32))

/-- The normalised channels, transposed. -/
def normed (h : FVec Ideal S16384x1024 .f32) : FVec Ideal S1024x16384 .bf16 :=
  truncf (F := Ideal) .bf16 (transpose S1024x16384 [1, 0] (mulf (mulf h (broadcastInDim S16384x1024 ![0, 1] bcast_S16384x1_S16384x1024_0_1
      (Host.rsqrt (addf (means h) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g)))
    transposes_S16384x1024_S1024x16384_1_0) bitsLt_bf16_f32

theorem normed_at (h : FVec Ideal S16384x1024 .f32) (t : Fin 16384) (d : Fin 1024) :
    normed g h (ix2 d t) = Project.scaled (fun e => h (ix2 t e)) d * g (ix1 d) := by
  unfold Project.scaled
  pointwise [normed, means]

/-! ### The results -/

open Cert.Kernel3Ideal.Res (streams units)

theorem total_eq : total x s a b w = streams (inputs x s a b w g) := by
  funext i
  obtain ⟨t, d, rfl⟩ : ∃ t d, i = ix2 t d := ⟨i 0, i 1, eq_ix2 i⟩
  exact total_at x s a b w g t d

theorem normed_eq : normed g (total x s a b w) = units (inputs x s a b w g) := by
  funext i
  obtain ⟨d, t, rfl⟩ : ∃ d t, i = ix2 d t := ⟨i 0, i 1, eq_ix2 i⟩
  refine (normed_at g _ t d).trans ?_
  rw [show (fun e => total x s a b w (ix2 t e)) = stream (inputs x s a b w g) t from funext (total_at x s a b w g t)]
  rfl

end Cert.Reference3Ideal.Res
-- ==== Proof.StreamValue.lean ====
module

public import proofs.«01_k».proof.Defs
public import proofs.«01_k».proof.Proof.StreamReference
public import Idealize.ShloMosaic.Adequacy
public import Idealize.ShloMosaic.Init

/-! The stream's launch and its reference end with the same two results. -/

@[expose] public section

set_option maxRecDepth 16384

noncomputable section

namespace Cert.Proof

open Idealize.ShloMosaic Idealize.ShloMosaic.TcCoe Idealize.SL.Sem
open Cert.Kernel3Ideal.Res

theorem residual : algebraic_Kernel3Ideal_Reference3Ideal := by
  intro m g m' g' _ hagree
  refine ⟨fun c => streams (inputs m c), fun c => units (inputs m c), ?_, ?_⟩
  · refine (θ_run Cert.Kernel3Ideal.defs _ _).mono (fun _ h c => ?_) (Cert.Kernel3Ideal.launch (F := Ideal) m g)
    have k13 := (Pipeline.Dat.toRForget_arrAt_iff (Cert.Kernel3Ideal.dats (F := Ideal) m 0 c) Cert.Kernel3Ideal.named13 _ _).1 ((h.1 c).1 13)
    have k14 := (Pipeline.Dat.toRForget_arrAt_iff (Cert.Kernel3Ideal.dats (F := Ideal) m 0 c) Cert.Kernel3Ideal.named14 _ _).1 ((h.1 c).1 14)
    exact ⟨k13.trans (array13 m c), k14.trans (array14 m c), Cert.Kernel3Ideal.kept m _ h.1 c⟩
  · refine (θ_run Cert.Reference3Ideal.defs _ _).mono (fun _ h c => ?_) (Cert.Reference3Ideal.Value.run (F := Ideal) m' g')
    obtain ⟨e0, e1, e2, e3, e4, e5, -, -, -⟩ := hagree c
    obtain ⟨h0, h1, ha⟩ := h c
    have ei : Cert.Reference3Ideal.Res.inputs (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5)) = inputs m c := by
      rw [e0, e1, e2, e3, e4, e5]
      rfl
    refine ⟨h0.trans ?_, h1.trans ?_, ha⟩
    · exact (Cert.Reference3Ideal.Res.total_eq _ _ _ _ _ _).trans (congrArg streams ei)
    · exact (Cert.Reference3Ideal.Res.normed_eq _ _ _ _ _ _).trans (congrArg units ei)

end Cert.Proof
-- ==== Proof.lean ====
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.Gen.Kernel2.Frame
public import proofs.«01_k».proof.Proof.Final
public import proofs.«01_k».proof.Proof.Finite
public import proofs.«01_k».proof.Proof.ReferenceTie
public import proofs.«01_k».proof.Proof.ProjectValue
public import proofs.«01_k».proof.Proof.Kernel3Frame
public import proofs.«01_k».proof.Proof.StreamValue
public import Idealize.ShloMosaic.Adequacy
public import Idealize.ShloMosaic.Init
public import Idealize.ShloMosaic.Lib.Quiescent

/-! The certificate's claims, assembled. The mixer (Proof/Model.lean) is the meeting point: the launch's result array is
    its result (Proof/Final.lean), and so is the reference's (Proof/ReferenceResult.lean), where the inputs that the
    recurrence reads are real (Proof/Finite.lean). The projections' two programs meet in Proof/ProjectValue.lean, the
    output projection's in Proof/StreamValue.lean. -/

@[expose] public section

set_option maxRecDepth 16384

noncomputable section

namespace Cert.Proof

open Idealize.ShloMosaic Idealize.ShloMosaic.TcCoe Idealize.SL.Sem

/-- On memories that agree on the arguments the two results are equal. -/
theorem same_result (m : (ℓ : Loc Cert.KernelIdeal.nD Cert.KernelIdeal.τ Cert.KernelIdeal.sig) → Buf (Elt Ideal) ℓ)
    (u : FVec Ideal Cert.ReferenceIdeal.S2x8192x1024 .f32) (d : FVec Ideal Cert.ReferenceIdeal.S2x8192x128 .f32) (z : FVec Ideal Cert.ReferenceIdeal.S2x8192x512 .f32)
    (w : FVec Ideal Cert.ReferenceIdeal.S4x1024 .f32) (cb : FVec Ideal Cert.ReferenceIdeal.S1024 .f32) (db al sk : FVec Ideal Cert.ReferenceIdeal.S8 .f32)
    (nw : FVec Ideal Cert.ReferenceIdeal.S512 .f32) (hpre : Cert.Pre_KernelIdeal_finite m) (c : Dev Cert.KernelIdeal.nD)
    (h : Cert.ReferenceIdeal.Ssd.inputs u d z w cb db al sk nw = Cert.KernelIdeal.Ssd.inputs m c) :
    Cert.ReferenceIdeal.Ssd.result u d z w cb db al sk nw = Cert.KernelIdeal.Value.G10 m c := by
  have hI := Cert.Pre_finite.Read.inputs_finite m hpre c
  funext x
  obtain ⟨i, t, j, rfl⟩ : ∃ i t j, x = ix3 i t j := ⟨x 0, x 1, x 2, eq_ix3 x⟩
  rw [Cert.ReferenceIdeal.Ssd.result_at u d z w cb db al sk nw (by rw [h]; exact hI), h]
  exact (Cert.KernelIdeal.Ssd.array_at m c hI i t j).symm

theorem value : algebraic_KernelIdeal_ReferenceIdeal_pre_finite := by
  intro m g m' g' hpre hagree
  refine ⟨_, Cert.KernelIdeal.Value.run (F := Ideal) m g, ?_⟩
  refine (θ_run Cert.ReferenceIdeal.defs _ _).mono (fun _ h c => ⟨?_, (h c).2⟩) (Cert.ReferenceIdeal.Value.run (F := Ideal) m' g')
  obtain ⟨h0, h1, h2, h3, h4, h5, h6, h7, h8⟩ := hagree c
  rw [(h c).1, Cert.ReferenceIdeal.Ssd.res_eq, h0, h1, h2, h3, h4, h5, h6, h7, h8]
  exact same_result m _ _ _ _ _ _ _ _ _ hpre c rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m g _ => Cert.Kernel.Gen.frame m g, fun m g _ => Cert.KernelIdeal.Gen.frame m g, fun m g _ => Cert.KernelIdeal.Gen.frame m g,
  fun m g _ => (θ_run Cert.ReferenceIdeal.defs _ _).mono (fun r h => ⟨fun c => (h c).2, sem_eq_zero_of_no_sems (by decide) r.2⟩)
    (Cert.ReferenceIdeal.Value.run (F := Ideal) m g),
  fun m g _ => (θ_run Cert.ReferenceIdeal.defs _ _).mono (fun r h => ⟨fun c => (h c).2, sem_eq_zero_of_no_sems (by decide) r.2⟩)
    (Cert.ReferenceIdeal.Value.run (F := Ideal) m g),
  fun m g _ => Cert.Kernel2.Gen.frame m g, fun m g _ => Cert.Kernel2Ideal.Gen.frame m g,
  fun m g _ => (θ_run Cert.Reference2Ideal.defs _ _).mono
    (fun r h => ⟨fun c => (h c).2.2.2.2.2.2.2, sem_eq_zero_of_no_sems (by decide) r.2⟩) (Cert.Reference2Ideal.Value.run (F := Ideal) m g),
  fun m g _ => Cert.Kernel3.frame_kept m g, fun m g _ => Cert.Kernel3Ideal.frame_kept m g,
  fun m g _ => (θ_run Cert.Reference3Ideal.defs _ _).mono
    (fun r h => ⟨fun c => (h c).2.2, sem_eq_zero_of_no_sems (by decide) r.2⟩) (Cert.Reference3Ideal.Value.run (F := Ideal) m g),
  (trivial : preserves_Kernel_KernelIdeal), value, (trivial : preserves_Kernel2_Kernel2Ideal), projections,
  (trivial : preserves_Kernel3_Kernel3Ideal), residual⟩

end Cert.Proof

end
